-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ preserves_Kernel_KernelIdeal
    ∧ algebraic_KernelIdeal_ReferenceIdeal (hKernelIdeal := hKernelIdeal) (hReferenceIdeal := hReferenceIdeal)
    ∧ preserves_Kernel2_Kernel2Ideal
-- ==== Kernel.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S2816x1152 : Shape := ⟨2, ![2816, 1152]⟩
abbrev S2x2x1024x256 : Shape := ⟨4, ![2, 2, 1024, 256]⟩
abbrev S4 : Shape := ⟨1, ![4]⟩
abbrev S1 : Shape := ⟨1, ![1]⟩
abbrev S512x2816 : Shape := ⟨2, ![512, 2816]⟩
abbrev S_ : Shape := ⟨0, ![]⟩
abbrev S1x1x1024x256 : Shape := ⟨4, ![1, 1, 1024, 256]⟩
abbrev S1024x256 : Shape := ⟨2, ![1024, 256]⟩
abbrev S512 : Shape := ⟨1, ![512]⟩
abbrev S512x1 : Shape := ⟨2, ![512, 1]⟩
abbrev S512x256 : Shape := ⟨2, ![512, 256]⟩
abbrev S176x1024 : Shape := ⟨2, ![176, 1024]⟩
abbrev S2816x512 : Shape := ⟨2, ![2816, 512]⟩
abbrev S512x512 : Shape := ⟨2, ![512, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1024x5632, .bf16⟩
  | .local _ .vmem, ⟨7, _⟩ => ⟨S2816x1152, .bf16⟩
  | .local _ .vmem, ⟨8, _⟩ => ⟨S2x2x1024x256, .f32⟩
  | .local _ .vmem, ⟨9, _⟩ => ⟨S2816x1024, .f32⟩
  | .local _ .vmem, ⟨10, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch6 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_1 : BitVec 32 := 0#32
  let v2 : BitVec 1 := Scalar.cmpi .ne v1 c0_i32_1
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel2.lean ====
abbrev S16 : Shape := ⟨1, ![16]⟩
abbrev S8x2048x1024 : Shape := ⟨3, ![8, 2048, 1024]⟩
abbrev S2048x128 : Shape := ⟨2, ![2048, 128]⟩
abbrev S1x1024 : Shape := ⟨2, ![1, 1024]⟩
abbrev S1024x5632 : Shape := ⟨2, ![1024, 5632]⟩
abbrev S4x1024 : Shape := ⟨2, ![4, 1024]⟩
abbrev S4x256x512 : Shape := ⟨3, ![4, 256, 512]⟩
abbrev S1024x3200 : Shape := ⟨2, ![1024, 3200]⟩
abbrev S1x512x1024 : Shape := ⟨3, ![1, 512, 1024]⟩
abbrev S512x128 : Shape := ⟨2, ![512, 128]⟩
abbrev S512x1024 : Shape := ⟨2, ![512, 1024]⟩
abbrev S8x512x128 : Shape := ⟨3, ![8, 512, 128]⟩
abbrev S3x1x1024 : Shape := ⟨3, ![3, 1, 1024]⟩
abbrev S640x1024 : Shape := ⟨2, ![640, 1024]⟩
abbrev S128x1024 : Shape := ⟨2, ![128, 1024]⟩
abbrev S512 : Shape := ⟨1, ![512]⟩
abbrev S512x1 : Shape := ⟨2, ![512, 1]⟩
abbrev S1x512x128 : Shape := ⟨3, ![1, 512, 128]⟩
abbrev S8x128 : Shape := ⟨2, ![8, 128]⟩
abbrev S64x512 : Shape := ⟨2, ![64, 512]⟩
abbrev S1024x512 : Shape := ⟨2, ![1024, 512]⟩
abbrev S512x512 : Shape := ⟨2, ![512, 512]⟩
abbrev S512x256 : Shape := ⟨2, ![512, 256]⟩
abbrev S256x128 : Shape := ⟨2, ![256, 128]⟩
abbrev S256x256 : Shape := ⟨2, ![256, 256]⟩
abbrev S256x1 : Shape := ⟨2, ![256, 1]⟩
abbrev S1x1x512 : Shape := ⟨3, ![1, 1, 512]⟩
abbrev S1x512 : Shape := ⟨2, ![1, 512]⟩
abbrev S1x256x512 : Shape := ⟨3, ![1, 256, 512]⟩
abbrev S256x512 : Shape := ⟨2, ![256, 512]⟩
abbrev S128x128 : Shape := ⟨2, ![128, 128]⟩
abbrev S1 : Shape := ⟨1, ![1]⟩
abbrev S256 : Shape := ⟨1, ![256]⟩
abbrev S8x512 : Shape := ⟨2, ![8, 512]⟩
abbrev S1x512x512 : Shape := ⟨3, ![1, 512, 512]⟩

abbrev nBuf : Space → Nat
  | .hbm => 15
  | .vmem => 32
  | .smem => 1
  | _ => 0

abbrev bufTy : (tb : Table) → Fin (tcTables nBuf tb) → BufTy
  | .hbm, ⟨0, _⟩ => ⟨S16, .f32⟩
  | .hbm, ⟨1, _⟩ => ⟨S8x2048x1024, .f32⟩
  | .hbm, ⟨2, _⟩ => ⟨S2048x128, .f32⟩
  | .hbm, ⟨3, _⟩ => ⟨S2048x128, .f32⟩
  | .hbm, ⟨4, _⟩ => ⟨S1x1024, .f32⟩
  | .hbm, ⟨5, _⟩ => ⟨S1024x5632, .bf16⟩
  | .hbm, ⟨6, _⟩ => ⟨S4x1024, .f32⟩
  | .hbm, ⟨7, _⟩ => ⟨S1x1024, .f32⟩
  | .hbm, ⟨8, _⟩ => ⟨S4x256x512, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x3200, .bf16⟩
  | .hbm, ⟨13, _⟩ => ⟨S1x1024, .f32⟩
  | .hbm, ⟨14, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x5632, .bf16⟩
  | .local _ .vmem, ⟨8, _⟩ => ⟨S4x1024, .f32⟩
  | .local _ .vmem, ⟨9, _⟩ => ⟨S1x1024, .f32⟩
  | .local _ .vmem, ⟨10, _⟩ => ⟨S4x256x512, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x3200, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S512x1024, .bf16⟩
  | .local _ .vmem, ⟨19, _⟩ => ⟨S8x512x128, .f32⟩
  | .local _ .vmem, ⟨20, _⟩ => ⟨S512x1024, .bf16⟩
  | .local _ .vmem, ⟨21, _⟩ => ⟨S3x1x1024, .f32⟩
  | .local _ .vmem, ⟨22, _⟩ => ⟨S1x1024, .f32⟩
  | .local _ .vmem, ⟨23, _⟩ => ⟨S512x1024, .bf16⟩
  | .local _ .vmem, ⟨24, _⟩ => ⟨S640x1024, .bf16⟩
  | .local _ .vmem, ⟨25, _⟩ => ⟨S640x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S8x512x128, .f32⟩
  | .local _ .vmem, ⟨31, _⟩ => ⟨S512x1024, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_scratch13 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x3200 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Proof.KFirst.lean ====
module

public import proofs.«01_k».proof.Proof.KSetup

@[expose] public section

/-! The body at the first point: from the windows' blocks, the scratch at anything and the weights as launched, it runs and hands everything back, the scratch and the output at some contents. -/

set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
set_option sl_exec.dmaWindow true in set_option sl_exec.dmaWindowSet true in
/-- The body at the first point: from the windows' blocks, the scratch at anything and the weights as launched, it runs and hands everything back, the scratch and the output at some contents. -/
theorem first_run (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S512x1024 .f32) (harg6 : arg6.IsWhole) (arg7 : Memref sig .tc .vmem S1024x5632 .bf16) (harg7 : arg7.IsWhole) (arg8 : Memref sig .tc .vmem S2816x1152 .bf16) (harg8 : arg8.IsWhole) (arg9 : Memref sig .tc .vmem S2x2x1024x256 .f32) (harg9 : arg9.IsWhole) (arg10 : Memref sig .tc .vmem S2816x1024 .f32) (harg10 : arg10.IsWhole) (arg13 : Memref sig .tc .vmem S512x2816 .bf16) (harg13 : arg13.IsWhole) (hc0 : cond0_0 i) (hc1 : ¬cond0_1 i)
    (x0 : Vec F S512x1024 .f32) (x1 : Vec F S1x1024 .f32) (x2 : Vec F S1x1024 .f32) (fh0 : HbBuf0 (F := F) c hbM0_0) (fh1 : HbBuf0 (F := F) c hbM0_1) :
    ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg13 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg13 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) arg5 harg5 arg6 harg6 arg7 harg7 arg8 harg8 arg9 harg9 arg10 harg10 cc0_scratch4 cc0_scratch5 arg13 harg13) K := by
  intro W K
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hh0, Hh1, HW, Hk⟩
  obtain rfl := harg1.eq_unread hf0; obtain rfl := harg2.eq_unread hf1; obtain rfl := harg5.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg5.read_unread _
    iexact H2
  isplitl [H3]
  · iexists _, _; isplitr; swap; · iexact H3
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  iexists _; iexact HW

end Cert.Kernel.Ffn

end
-- ==== Proof.KLater.lean ====
module

public import proofs.«01_k».proof.Proof.KSetup

@[expose] public section

/-! The body at a later point: from the windows' blocks and the scratch at anything, it runs and hands everything back, the scratch and the output at some contents. -/

set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The body at a later point: from the windows' blocks and the scratch at anything, it runs and hands everything back, the scratch and the output at some contents. -/
theorem later_run (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S512x1024 .f32) (harg6 : arg6.IsWhole) (arg7 : Memref sig .tc .vmem S1024x5632 .bf16) (harg7 : arg7.IsWhole) (arg8 : Memref sig .tc .vmem S2816x1152 .bf16) (harg8 : arg8.IsWhole) (arg9 : Memref sig .tc .vmem S2x2x1024x256 .f32) (harg9 : arg9.IsWhole) (arg10 : Memref sig .tc .vmem S2816x1024 .f32) (harg10 : arg10.IsWhole) (arg13 : Memref sig .tc .vmem S512x2816 .bf16) (harg13 : arg13.IsWhole) (hc0 : ¬cond0_0 i) (hc1 : cond0_1 i)
    (x0 : Vec F S512x1024 .f32) (x1 : Vec F S1x1024 .f32) (x2 : Vec F S1x1024 .f32) (fh0 : HbBuf0 (F := F) c hbM0_0) (fh1 : HbBuf0 (F := F) c hbM0_1) :
    ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg13 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg13 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) arg5 harg5 arg6 harg6 arg7 harg7 arg8 harg8 arg9 harg9 arg10 harg10 cc0_scratch4 cc0_scratch5 arg13 harg13) K := by
  intro W K
  simp only [cc0_ffn_eq_skeleton]; unfold cc0_ffn_skel
  simp only [k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hh0, Hh1, HW, Hk⟩
  obtain rfl := harg1.eq_unread hf0; obtain rfl := harg2.eq_unread hf1; obtain rfl := harg5.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg5.read_unread _
    iexact H2
  isplitl [H3]
  · iexists _, _; isplitr; swap; · iexact H3
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  iexists _; iexact HW

end Cert.Kernel.Ffn

end
-- ==== Proof.KFrame.lean ====
module

public import proofs.«01_k».proof.Proof.KFirst
public import proofs.«01_k».proof.Proof.KLater
public import Idealize.ShloMosaic.Lib.Claim

@[expose] public section

/-! The kernel's frame: it runs at any values, its arguments end unchanged and every semaphore counter ends at zero. -/

set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The window whose contents the frame does not name: the output's. -/
def unread : Fin 4 → Bool := fun w => w.val == 3

/-- The proof data: the arrays as launched, each input's buffer at its block; between points the launch's own invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d))

set_option maxHeartbeats 6400000 in
/-- The body at any point, by the two cases' runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦD osem0 spec0 H0 (V m) c from rfl, show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  iintro ⟨⟨⟨HS0, HS1, HS2, HS3, HS4⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩⟩
  by_cases hz : t.val = 0
  · have h0 : t.val % 32 = 0 := by omega
    have h1 : ¬1 ≤ t.val := by omega
    iapply (first_run c (grid0.coords t) _ _ _ _ _ _ _ _ _ _ _ _ _ _ _ _ _ _ ((hcond0_0 t).mpr h0) (fun h => h1 ((hcond0_1 t).mp h)) (iblk m c 0 t) (iblk m c 1 t) (iblk m c 2 t) (V m c main_arg2) (V m c main_arg3) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [HW]; · iexact HW
    iintro ⟨H0, H1, H2, H3, HS0, HS1, HS2, HS3, HS4, Hq0, Hq1, Hq2, Hq3, Hq4, Hh0, Hh1, ⟨%W', HW'⟩⟩
    isplitl [HS0 HS1 HS2 HS3 HS4 Hg Hq0 Hq1 Hq2 Hq3 Hq4 Hh0 Hh1]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]
      · iexact Hg
      isplitl [Hq0 Hq1 Hq2 Hq3 Hq4]
      · isplitl [Hq0]; · iexact Hq0
        isplitl [Hq1]; · iexact Hq1
        isplitl [Hq2]; · iexact Hq2
        isplitl [Hq3]; · iexact Hq3
        iexact Hq4
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3
  · have h0 : ¬t.val % 32 = 0 := by omega
    have h1 : 1 ≤ t.val := by omega
    iapply (later_run c (grid0.coords t) _ _ _ _ _ _ _ _ _ _ _ _ _ _ _ _ _ _ (fun h => h0 ((hcond0_0 t).mp h)) ((hcond0_1 t).mpr h1) (iblk m c 0 t) (iblk m c 1 t) (iblk m c 2 t) (V m c main_arg2) (V m c main_arg3) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [HW]; · iexact HW
    iintro ⟨H0, H1, H2, H3, HS0, HS1, HS2, HS3, HS4, Hq0, Hq1, Hq2, Hq3, Hq4, Hh0, Hh1, ⟨%W', HW'⟩⟩
    isplitl [HS0 HS1 HS2 HS3 HS4 Hg Hq0 Hq1 Hq2 Hq3 Hq4 Hh0 Hh1]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]
      · iexact Hg
      isplitl [Hq0 Hq1 Hq2 Hq3 Hq4]
      · isplitl [Hq0]; · iexact Hq0
        isplitl [Hq1]; · iexact Hq1
        isplitl [Hq2]; · iexact Hq2
        isplitl [Hq3]; · iexact Hq3
        iexact Hq4
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ unread := fun t => by
  rw [bigSep_W0, bigSep_W0, defs₀_row]
  exact triple_restated (sound_body m c t) rfl .rfl fun _ => .rfl

set_option backward.isDefEq.respectTransparency.types false in
/-- The launch: every input array of the pipeline unchanged, every semaphore counter at zero. -/
theorem run_main : θ_run defs (onTc (τ := τ) (main (F := F))) (s₀ m ρ) (fun r => (Pipeline.RDat.FramePost (cfgs 0) (fun c => (dats m 0 c).toRForget unread) (V m)) r ∧ r.2.sem = fun _ => 0) :=
  Pipeline.θ_run_frame_dma_forget (Q' := _) cfgs (dats m) (0 : Fin 1) launch0 osem0 defs₀ Variants.none unread ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun c => .rfl) (hout := fun c => .rfl)

/-- The arguments end unchanged and every semaphore counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (fun c => (dats m 0 c).toRForget unread) (A_eq m) ((θ_run defs _ _).mono (fun _ h => h.1) (run_main m ρ)))
    ((θ_run defs _ _).mono (fun _ h => h.2) (run_main m ρ))

end Cert.Kernel.Ffn

end
-- ==== Proof.Setup.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

/-! The launch's set-up: the windows' blocks, the two cases of the body, the scratch, the copies' semaphores. -/

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## Up to the launch -/

/-- Core `c`'s buffers when the kernel is launched: as given. -/
abbrev V (c : Dev nD) (b : Ref sig .tc) : Buf (Elt F) ((c : Thread nD τ).loc b) := m ((c : Thread nD τ).loc b)

set_option maxHeartbeats 800000 in
/-- The program up to the kernel's launch: nothing but the launch. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The windows' blocks -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, for any proof data that starts from the launch's arrays and
    whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, for any proof data that starts from the launch's arrays and
    whose body leaves the block in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, for any proof data that starts from the launch's arrays and
    whose body leaves the block in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame -/

/-- The frame, from a run whose proof data start from the launch's arrays: every argument ends unchanged. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 2 rfl).trans ((hA c 2).trans (V_main_arg4 m c))⟩) h

/-! ## The body's branch conditions -/

/-- The first case's condition: the point is the first. -/
abbrev cond0_0 (i : grid0.Coords) : Prop := k0_cond1 i = 1#1
/-- It holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-- The second case's condition: the point is not the first. -/
abbrev cond0_1 (i : grid0.Coords) : Prop := k0_cond2 i = 1#1
/-- It holds at the points after the first. -/
theorem hcond0_1 : ∀ t : Fin cfg0.N, cond0_1 (grid0.coords t) ↔ 1 ≤ t.val :=
  (by decide +kernel : ∀ t : Fin grid0.N, cond0_1 (grid0.coords t) ↔ 1 ≤ t.val)

/-! ## No input window is idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The body's buffers -/

/-- Each window's buffer at point `t`, and that it is whole. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
/-- The scratch. -/
abbrev scM0_0 : Memref sig .tc .vmem S1024x5632 .bf16 := Memref.whole cc0_scratch0
abbrev scM0_1 : Memref sig .tc .vmem S2816x1152 .bf16 := Memref.whole cc0_scratch1
abbrev scM0_2 : Memref sig .tc .vmem S2x2x1024x256 .f32 := Memref.whole cc0_scratch2
abbrev scM0_3 : Memref sig .tc .vmem S2816x1024 .f32 := Memref.whole cc0_scratch3
abbrev scM0_4 : Memref sig .tc .vmem S512x2816 .bf16 := Memref.whole cc0_scratch6
/-- The gate and up projections' scratch, as a view. -/
abbrev VS0_0 : View sig .tc .vmem S1024x5632 .bf16 := scM0_0.view
/-- The weights, which the body copies itself. -/
abbrev hbM0_0 : Memref sig .tc .hbm S1024x5632 .f32 := Memref.whole main_arg2
abbrev hbM0_1 : Memref sig .tc .hbm S2816x1024 .f32 := Memref.whole main_arg3
/-- A buffer's contents on core `c`, and the buffer held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own copy semaphores. -/
abbrev osem0 : Fin 5 → SemLoc sig := fun j => (![SemLoc.dma 6, SemLoc.dma 7, SemLoc.dma 8, SemLoc.dma 9, SemLoc.dma 10] : Fin 5 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4] (by decide) (by decide)]; rfl
/-- The weights, as references. -/
def H0 : Finset (Ref sig .tc) := {main_arg2, main_arg3}
theorem H0_sub : H0 ⊆ Pipeline.restRefs sig spec0 := by decide
/-- The weights held at the launch's contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3)) := by
  rw [BI.bigSep_eq_bigSepL_of_eq [main_arg2, main_arg3] (by decide) (by decide)]; rfl

/-- The launch's invariant, conjunct by conjunct: the scratch at some contents, the generator's register at some state, the
    semaphores at zero, the weights at the launch's contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg2) ∗ hbPt0 c hbM0_1 (V m c main_arg3))) := by
  rw [Pipeline.ΦD_eq, scopedRest0_eq, ownSems00_eq, hbmPts0_eq]; simp only [scM0_0, scM0_1, scM0_2, scM0_3, scM0_4, owns_whole]; try rfl

end Cert.KernelIdeal.Ffn

end
-- ==== Proof.RunFirst.lean ====
module

public import proofs.«01_k».proof.Proof.Setup

@[expose] public section

/-! The body at the first point, run once for any buffers. -/

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in set_option sl_exec.dmaWindow true in set_option sl_exec.dmaWindowSet true in
/-- The body at the first point, with the pieces its stores leave: in the gate and up projections' scratch and in the output's
    buffer (both as functions of what the ring of staging buffers held, since the first copies go through it) and in the
    down projection's scratch. From the windows' blocks `x0 x1 x2`, the scratch at anything and the weights at `fh0 fh1`, the body
    runs and hands the windows and the weights back as they were, these three buffers with their pieces written, the other
    scratch at some contents, the semaphores at zero. -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S512x1024 .f32) (harg6 : arg6.IsWhole) (arg7 : Memref sig .tc .vmem S1024x5632 .bf16) (harg7 : arg7.IsWhole) (arg8 : Memref sig .tc .vmem S2816x1152 .bf16) (harg8 : arg8.IsWhole) (arg9 : Memref sig .tc .vmem S2x2x1024x256 .f32) (harg9 : arg9.IsWhole) (arg10 : Memref sig .tc .vmem S2816x1024 .f32) (harg10 : arg10.IsWhole) (arg13 : Memref sig .tc .vmem S512x2816 .bf16) (harg13 : arg13.IsWhole) (hc0 : cond0_0 i) (hc1 : ¬cond0_1 i)
    (x0 : Vec F S512x1024 .f32) (x1 : Vec F S1x1024 .f32) (x2 : Vec F S1x1024 .f32) (fh0 : HbBuf0 (F := F) c hbM0_0) (fh1 : HbBuf0 (F := F) c hbM0_1) :
    { L : (arg9.view.ty.Contents (Elt F) → List (View.Piece (Elt F) S1024x5632 .bf16)) × List (View.Piece (Elt F) S2816x1152 .bf16) × (arg9.view.ty.Contents (Elt F) → List (View.Piece (Elt F) S512x1024 .f32)) //
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg13 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ (∃ f g, arg6.view.loc (c : Thread nD τ) ↦[arg6.view.set]{fullShare} arg6.view.writes (Elt F) f (L.2.2 g)) ∗ (∃ f g, arg7.view.loc (c : Thread nD τ) ↦[arg7.view.set]{fullShare} arg7.view.writes (Elt F) f (L.1 g)) ∗ (∃ f, arg8.view.loc (c : Thread nD τ) ↦[arg8.view.set]{fullShare} arg8.view.writes (Elt F) f L.2.1) ∗ (∃ d, owns (c : Thread nD τ) arg9 fullShare d) ∗ (∃ d, owns (c : Thread nD τ) arg10 fullShare d) ∗ (∃ d, owns (c : Thread nD τ) arg13 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) arg5 harg5 arg6 harg6 arg7 harg7 arg8 harg8 arg9 harg9 arg10 harg10 cc0_scratch4 cc0_scratch5 arg13 harg13) K } := by
  refine ⟨(?_, ?_, ?_), fun W K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hh0, Hh1, HW, Hk⟩
    obtain rfl := harg1.eq_unread hf0; obtain rfl := harg2.eq_unread hf1; obtain rfl := harg5.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]; · iexists f3, fs2; iexact H3
    isplitl [HS0]; · iexists fs0, fs2; iexact HS0
    isplitl [HS1]; · iexists fs1; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    iexists _; iexact HW

end Cert.KernelIdeal.Ffn

end
-- ==== Proof.RunLater.lean ====
module

public import proofs.«01_k».proof.Proof.Setup

@[expose] public section

/-! The body at a later point, run once for any buffers. -/

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at a point after the first, with the pieces its stores leave in the output's buffer. From the windows' blocks
    `x0 x1 x2`, the weights' scratch at `xs0 xs1`, the other scratch at anything and the weights at `fh0 fh1`, the body runs and hands
    the windows, the weights and the weights' scratch back as they were, the output's buffer with its pieces written, the
    other scratch at some contents, the semaphores at zero. -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S512x1024 .f32) (harg6 : arg6.IsWhole) (arg7 : Memref sig .tc .vmem S1024x5632 .bf16) (harg7 : arg7.IsWhole) (arg8 : Memref sig .tc .vmem S2816x1152 .bf16) (harg8 : arg8.IsWhole) (arg9 : Memref sig .tc .vmem S2x2x1024x256 .f32) (harg9 : arg9.IsWhole) (arg10 : Memref sig .tc .vmem S2816x1024 .f32) (harg10 : arg10.IsWhole) (arg13 : Memref sig .tc .vmem S512x2816 .bf16) (harg13 : arg13.IsWhole) (hc0 : ¬cond0_0 i) (hc1 : cond0_1 i)
    (x0 : Vec F S512x1024 .f32) (x1 : Vec F S1x1024 .f32) (x2 : Vec F S1x1024 .f32) (xs0 : Vec F S1024x5632 .bf16) (xs1 : Vec F S2816x1152 .bf16) (fh0 : HbBuf0 (F := F) c hbM0_0) (fh1 : HbBuf0 (F := F) c hbM0_1) :
    { L : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ (∃ d, owns (c : Thread nD τ) arg9 fullShare d) ∗ (∃ d, owns (c : Thread nD τ) arg10 fullShare d) ∗ (∃ d, owns (c : Thread nD τ) arg13 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ (∃ f, arg6.view.loc (c : Thread nD τ) ↦[arg6.view.set]{fullShare} arg6.view.writes (Elt F) f L) ∗ owns (c : Thread nD τ) arg7 fullShare xs0 ∗ owns (c : Thread nD τ) arg8 fullShare xs1 ∗ (∃ d, owns (c : Thread nD τ) arg9 fullShare d) ∗ (∃ d, owns (c : Thread nD τ) arg10 fullShare d) ∗ (∃ d, owns (c : Thread nD τ) arg13 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) arg5 harg5 arg6 harg6 arg7 harg7 arg8 harg8 arg9 harg9 arg10 harg10 cc0_scratch4 cc0_scratch5 arg13 harg13) K } := by
  refine ⟨?_, fun W K => ?run⟩
  case run =>
    simp only [cc0_ffn_eq_skeleton]; unfold cc0_ffn_skel
    simp only [k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, ⟨%ds3, %fs3, -, HS3⟩, ⟨%ds4, %fs4, -, HS4⟩, Hq0, Hq1, Hq2, Hq3, Hq4, Hh0, Hh1, HW, Hk⟩
    obtain rfl := harg1.eq_unread hf0; obtain rfl := harg2.eq_unread hf1; obtain rfl := harg5.eq_unread hf2; obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    iexists _; iexact HW

end Cert.KernelIdeal.Ffn

end
-- ==== Proof.Rows.lean ====
module

public import Idealize.ShloMosaic.Lib.Pointwise

@[expose] public section

/-! What the layer computes of ONE row, in extended reals: the feed-forward half-step written as sums. Both programs'
results are shown to be this function of the arrays' rows. -/

noncomputable section

namespace Cert.Row

open Idealize.ShloMosaic

/-- The constant the norm adds to the mean of squares, as printed. -/
def eps : EReal := Ideal.ofBits .f32 0x358637BD#32

/-- The row's reciprocal root mean square. -/
def scale (x : Fin 1024 → EReal) : EReal :=
  Ideal.rsqrt (Ideal.div (∑ k, x k * x k) (Ideal.ofBits .f32 0x44800000#32) + eps)

/-- The normalized row, weighted. -/
def normed (x g : Fin 1024 → EReal) (k : Fin 1024) : EReal := x k * scale x * g k

/-- A column of the first projection, of any row `y`. -/
def proj (y : Fin 1024 → EReal) (w : Fin 1024 → Fin 5632 → EReal) (j : Fin 5632) : EReal := ∑ k, y k * w k j

/-- Column `j` of the gate half. -/
def gateCol (j : Fin 2816) : Fin 5632 := ⟨j.val, by omega⟩
/-- Column `j` of the up half. -/
def upCol (j : Fin 2816) : Fin 5632 := ⟨2816 + j.val, by omega⟩

/-- The gated activation: `p · σ(p) · q`. -/
def gated (p q : EReal) : EReal := p * Ideal.logistic p * q

/-- The hidden row's entry `j`, of the normalized row `y`. -/
def hidden (y : Fin 1024 → EReal) (w : Fin 1024 → Fin 5632 → EReal) (j : Fin 2816) : EReal :=
  gated (proj y w (gateCol j)) (proj y w (upCol j))

/-- The second projection's entry `n`, of the hidden row `a`. -/
def down (a : Fin 2816 → EReal) (v : Fin 2816 → Fin 1024 → EReal) (n : Fin 1024) : EReal := ∑ j, a j * v j n

/-- The half-step's residual update, of the row `x` and the feed-forward's row `f`. -/
def update (x f q : Fin 1024 → EReal) (n : Fin 1024) : EReal :=
  x n + Ideal.ofBits .f32 0x3F000000#32 * (f n * scale f * q n)

/-- The feed-forward's row. -/
def feed (x g : Fin 1024 → EReal) (w : Fin 1024 → Fin 5632 → EReal) (v : Fin 2816 → Fin 1024 → EReal) : Fin 1024 → EReal :=
  down (hidden (normed x g) w) v

/-- The half-step on one row. -/
def out (x g : Fin 1024 → EReal) (w : Fin 1024 → Fin 5632 → EReal) (v : Fin 2816 → Fin 1024 → EReal) (q : Fin 1024 → EReal)
    (n : Fin 1024) : EReal :=
  update x (feed x g w v) q n

/-- The printed `1024.0` is 1024. -/
theorem ofBits_1024 : Ideal.ofBits .f32 0x44800000#32 = ((1024 : ℝ) : EReal) := by
  simp only [Ideal.ofBits, Ideal.ieee]; simp; rw [← EReal.coe_mul]; norm_num

/-- The printed `9.765625e-4` is 1/1024. -/
theorem ofBits_inv1024 : Ideal.ofBits .f32 0x3A800000#32 = ((1 / 1024 : ℝ) : EReal) := by
  simp only [Ideal.ofBits, Ideal.ieee]; simp; rw [← EReal.coe_mul]; norm_num

/-- Multiplying by the printed reciprocal is dividing by 1024. -/
theorem mul_inv1024 (s : EReal) : s * Ideal.ofBits .f32 0x3A800000#32 = Ideal.div s (Ideal.ofBits .f32 0x44800000#32) := by
  rw [ofBits_1024, ofBits_inv1024, Ideal.div_coe (by norm_num)]

/-- A sum over 1024 columns is the sum over the first 512 plus the sum over the last 512. -/
theorem sum_halves (f : Fin 1024 → EReal) :
    (∑ k : Fin 512, f ⟨k.val, by omega⟩) + (∑ k : Fin 512, f ⟨512 + k.val, by omega⟩) = ∑ k, f k :=
  (Fin.sum_univ_add (a := 512) (b := 512) f).symm

/-- The kernel's placing of the factors, `x + f · (½ · scale) · q`, is the update. -/
theorem update_assoc (x h f s q : EReal) : x + f * (h * s) * q = x + h * (f * s * q) := by
  rw [← mul_assoc, ← mul_assoc, mul_comm f h, ← mul_assoc, mul_assoc h f s]

end Cert.Row

end
-- ==== Proof.Tiles.lean ====
module

public import proofs.«01_k».proof.Proof.Gen.KernelIdeal.Skeleton
public import proofs.«01_k».proof.Proof.Rows
public import Idealize.ShloMosaic.Lib.Pipeline.ReadBack
public import Idealize.ShloMosaic.Lib.WholeRead
public import Idealize.ShloMosaic.Lib.Pointwise

@[expose] public section

/-! The kernel's payloads over a tile of 512 rows, read at an index: each is a function of the rows (`Cert.Row`). -/

set_option maxRecDepth 16384

noncomputable section

namespace Cert.KernelIdeal.Ffn

open Cert.KernelIdeal Cert.KernelIdeal.Gen
open Idealize.ShloMosaic
open scoped BigOperators

/-! ## Blocks of a matrix -/

/-- Where a block's index lies in the matrix: the block's corner added. -/
theorem unit_idx {a b o₀ o₁ : ℕ} {size : Fin 2 → ℕ} (inb : ∀ d, (![o₀, o₁] : Fin 2 → ℕ) d + size d ≤ (⟨2, ![a, b]⟩ : Shape).size d)
    (x : (Rect.unit (s := ⟨2, ![a, b]⟩) ![o₀, o₁] size inb).shape.Idx) :
    (Rect.unit (s := ⟨2, ![a, b]⟩) ![o₀, o₁] size inb).toLoadRect.idx x
      = (ix2 ⟨o₀ + (x 0).val, lt_of_lt_of_le (Nat.add_lt_add_left (x 0).isLt _) (inb 0)⟩
          ⟨o₁ + (x 1).val, lt_of_lt_of_le (Nat.add_lt_add_left (x 1).isLt _) (inb 1)⟩ : (⟨2, ![a, b]⟩ : Shape).Idx) := by
  funext d; apply Fin.ext
  match d with
  | ⟨0, _⟩ => exact congrArg (o₀ + ·) (Nat.one_mul _)
  | ⟨1, _⟩ => exact congrArg (o₁ + ·) (Nat.one_mul _)

/-- The same of a store's block. -/
theorem unit_emb {a b o₀ o₁ : ℕ} {size : Fin 2 → ℕ} (inb : ∀ d, (![o₀, o₁] : Fin 2 → ℕ) d + size d ≤ (⟨2, ![a, b]⟩ : Shape).size d)
    (x : (Rect.unit (s := ⟨2, ![a, b]⟩) ![o₀, o₁] size inb).shape.Idx) :
    (Rect.unit (s := ⟨2, ![a, b]⟩) ![o₀, o₁] size inb).emb x
      = (ix2 ⟨o₀ + (x 0).val, lt_of_lt_of_le (Nat.add_lt_add_left (x 0).isLt _) (inb 0)⟩
          ⟨o₁ + (x 1).val, lt_of_lt_of_le (Nat.add_lt_add_left (x 1).isLt _) (inb 1)⟩ : (⟨2, ![a, b]⟩ : Shape).Idx) := unit_idx inb x

/-! ## The tile's functions -/

/-- The tile's rows, normalized and weighted. -/
def normedTile (x : S512x1024.Idx → EReal) (g : S1x1024.Idx → EReal) : S512x1024.Idx → EReal := fun i =>
  Row.normed (fun k => x (ix2 (i 0) k)) (fun k => g (ix2 0 k)) (i 1)

/-- The tile's hidden rows. -/
def hiddenTile (y : S512x1024.Idx → EReal) (W : S1024x5632.Idx → EReal) : S512x2816.Idx → EReal := fun i =>
  Row.hidden (fun k => y (ix2 (i 0) k)) (fun k j => W (ix2 k j)) (i 1)

/-- The gated product of a tile with two blocks of 256 columns. -/
def gatedTile (y : S512x1024.Idx → EReal) (A B : S1024x256.Idx → EReal) : S512x256.Idx → EReal := fun x =>
  Row.gated (∑ k : Fin 1024, y (ix2 (x 0) k) * A (ix2 k (x 1))) (∑ k : Fin 1024, y (ix2 (x 0) k) * B (ix2 k (x 1)))

/-- One part of the staging buffer as a block of 256 columns. -/
def stagePart (v : S1x1x1024x256.Idx → EReal) : S1024x256.Idx → EReal := fun i => v (ix4 0 0 (i 0) (i 1))

/-- The first 1024 columns of the down projection's scratch. -/
def downCols (D : S2816x1152.Idx → EReal) (j : Fin 2816) (n : Fin 1024) : EReal := D (ix2 j ⟨n.val, by omega⟩)

/-- The feed-forward's rows of the tile. -/
def feedTile (a : S512x2816.Idx → EReal) (V : Fin 2816 → Fin 1024 → EReal) (r : Fin 512) : Fin 1024 → EReal :=
  Row.down (fun j => a (ix2 r j)) V

/-- The tile's result. -/
def outTile (x : S512x1024.Idx → EReal) (a : S512x2816.Idx → EReal) (V : Fin 2816 → Fin 1024 → EReal) (q : S1x1024.Idx → EReal) :
    S512x1024.Idx → EReal := fun i =>
  Row.update (fun k => x (ix2 (i 0) k)) (feedTile a V (i 0)) (fun k => q (ix2 0 k)) (i 1)

/-- A product of the hidden tile with a block of 512 columns. -/
def halfTile (a : S512x2816.Idx → EReal) (V : S2816x512.Idx → EReal) : S512x512.Idx → EReal := fun x =>
  ∑ j : Fin 2816, a (ix2 (x 0) j) * V (ix2 j (x 1))

/-- The factor a tile's rows are scaled by, from the two halves of the feed-forward. -/
def halfScale (f₀ f₁ : S512x512.Idx → EReal) (r : Fin 512) : EReal :=
  Ideal.ofBits .f32 0x3F000000#32 * Ideal.rsqrt
    (((∑ k : Fin 512, f₀ (ix2 r k) * f₀ (ix2 r k)) + ∑ k : Fin 512, f₁ (ix2 r k) * f₁ (ix2 r k)) * Ideal.ofBits .f32 0x3A800000#32
      + Ideal.ofBits .f32 0x358637BD#32)

/-- One half of the result. -/
def halfOut (x f : S512x512.Idx → EReal) (s : Fin 512 → EReal) (q : S1x512.Idx → EReal) : S512x512.Idx → EReal := fun i =>
  x i + f i * s (i 0) * q (ix2 0 (i 1))

/-- A gated product with the columns `o …` of the gate half and of the up half is the hidden tile's columns `o …`. -/
theorem gatedTile_block (y : S512x1024.Idx → EReal) (W : S1024x5632.Idx → EReal) {o p : ℕ} (hp : p = 2816 + o)
    (inbo : ∀ d, (![0, o] : Fin 2 → ℕ) d + S1024x256.size d ≤ S1024x5632.size d)
    (inbp : ∀ d, (![0, p] : Fin 2 → ℕ) d + S1024x256.size d ≤ S1024x5632.size d)
    (inbs : ∀ d, (![0, o] : Fin 2 → ℕ) d + S512x256.size d ≤ S512x2816.size d) (x : S512x256.Idx) :
    gatedTile y (fun j => W ((Rect.unit (s := S1024x5632) ![0, o] S1024x256.size inbo).toLoadRect.idx j))
        (fun j => W ((Rect.unit (s := S1024x5632) ![0, p] S1024x256.size inbp).toLoadRect.idx j)) x
      = hiddenTile y W ((Rect.unit (s := S512x2816) ![0, o] S512x256.size inbs).emb x) := by
  subst hp
  have e := unit_emb inbs x
  rw [show (Rect.unit (s := S512x2816) ![0, o] S512x256.size inbs).emb x = _ from e]
  unfold gatedTile hiddenTile Row.hidden Row.proj
  refine congrArg₂ _ (Finset.sum_congr rfl fun k _ => ?_) (Finset.sum_congr rfl fun k _ => ?_)
  · refine congrArg₂ _ (congrArg y ?_) ?_
    · refine congrArg (fun r => ix2 r k) (Fin.ext ?_); simp
    · refine congrArg W ((unit_idx inbo (ix2 k (x 1))).trans ?_)
      refine congrArg₂ ix2 (Fin.ext ?_) (Fin.ext ?_) <;> simp [Row.gateCol]
  · refine congrArg₂ _ (congrArg y ?_) ?_
    · refine congrArg (fun r => ix2 r k) (Fin.ext ?_); simp
    · refine congrArg W ((unit_idx inbp (ix2 k (x 1))).trans ?_)
      refine congrArg₂ ix2 (Fin.ext ?_) (Fin.ext ?_) <;> simp [Row.upCol, Nat.add_assoc]

/-- A half of the feed-forward is its columns `o …`. -/
theorem halfTile_block (a : S512x2816.Idx → EReal) (D : S2816x1152.Idx → EReal) {o : ℕ}
    (inb : ∀ d, (![0, o] : Fin 2 → ℕ) d + S2816x512.size d ≤ S2816x1152.size d) (r k : Fin 512) (h : o + k.val < 1024) :
    halfTile a (fun j => D ((Rect.unit (s := S2816x1152) ![0, o] S2816x512.size inb).toLoadRect.idx j)) (ix2 r k)
      = feedTile a (downCols D) r ⟨o + k.val, h⟩ := by
  unfold halfTile feedTile Row.down downCols
  refine Finset.sum_congr rfl fun j _ => congrArg₂ _ rfl (congrArg D ((unit_idx inb (ix2 j k)).trans ?_))
  refine congrArg₂ ix2 (Fin.ext ?_) (Fin.ext ?_) <;> simp

/-- The two halves' factor is half the row's scale. -/
theorem halfScale_eq (a : S512x2816.Idx → EReal) (V : Fin 2816 → Fin 1024 → EReal) (f₀ f₁ : S512x512.Idx → EReal) (r : Fin 512)
    (h₀ : ∀ k : Fin 512, f₀ (ix2 r k) = feedTile a V r ⟨k.val, by omega⟩)
    (h₁ : ∀ k : Fin 512, f₁ (ix2 r k) = feedTile a V r ⟨512 + k.val, by omega⟩) :
    halfScale f₀ f₁ r = Ideal.ofBits .f32 0x3F000000#32 * Row.scale (feedTile a V r) := by
  unfold halfScale Row.scale Row.eps
  rw [Row.mul_inv1024, ← Row.sum_halves (fun k => feedTile a V r k * feedTile a V r k)]
  simp only [h₀, h₁]

/-- One half of the result is the columns `o …` of the tile's. -/
theorem halfOut_block (x : S512x1024.Idx → EReal) (a : S512x2816.Idx → EReal) (V : Fin 2816 → Fin 1024 → EReal) (q : S1x1024.Idx → EReal)
    {o : ℕ} (ho : o + 512 ≤ 1024)
    (inbx : ∀ d, (![0, o] : Fin 2 → ℕ) d + S512x512.size d ≤ S512x1024.size d)
    (inbq : ∀ d, (![0, o] : Fin 2 → ℕ) d + S1x512.size d ≤ S1x1024.size d)
    (f : S512x512.Idx → EReal) (s : Fin 512 → EReal)
    (hf : ∀ r k : Fin 512, f (ix2 r k) = feedTile a V r ⟨o + k.val, by omega⟩)
    (hs : ∀ r, s r = Ideal.ofBits .f32 0x3F000000#32 * Row.scale (feedTile a V r)) (i : S512x512.Idx) :
    halfOut (fun j => x ((Rect.unit (s := S512x1024) ![0, o] S512x512.size inbx).toLoadRect.idx j)) f s
        (fun j => q ((Rect.unit (s := S1x1024) ![0, o] S1x512.size inbq).toLoadRect.idx j)) i
      = outTile x a V q ((Rect.unit (s := S512x1024) ![0, o] S512x512.size inbx).emb i) := by
  rw [show (Rect.unit (s := S512x1024) ![0, o] S512x512.size inbx).emb i = _ from unit_emb inbx i]
  idx_vars i
  unfold halfOut outTile Row.update
  refine Eq.trans (congrArg₂ _ rfl (congrArg₂ _ (congrArg₂ _ (hf i0 i1) (hs i0)) rfl)) ?_
  rw [Row.update_assoc]
  refine congrArg₂ _ (congrArg x ((unit_idx inbx (ix2 i0 i1)).trans rfl)) (congrArg₂ _ rfl ?_)
  have e : ∀ h, (⟨0 + i0.val, h⟩ : Fin 512) = i0 := fun h => Fin.ext (Nat.zero_add _)
  refine congrArg₂ _ (congrArg₂ _ ?_ ?_) (congrArg q ((unit_idx inbq (ix2 0 i1)).trans ?_))
  · exact congrArg (fun r => feedTile a V r _) (e _).symm
  · exact congrArg (fun r => Row.scale (feedTile a V r)) (e _).symm
  · refine congrArg₂ ix2 (Fin.ext ?_) (Fin.ext ?_) <;> simp

/-! ## The payloads -/

theorem pay3_eq (x : Vec Ideal S512x1024 .f32) (g : Vec Ideal S1x1024 .f32) :
    k0_pay3 x g = normedTile x g := by
  funext i; idx_vars i; pointwise [k0_pay3]; rfl

theorem pay64_eq (x : Vec Ideal S512x1024 .f32) (g : Vec Ideal S1x1024 .f32) :
    k0_pay64 x g = normedTile x g := by
  funext i; idx_vars i; pointwise [k0_pay64]; rfl

theorem pay65_eq (x : Vec Ideal S512x1024 .f32) (g : Vec Ideal S1x1024 .f32) (A B : Vec Ideal S1024x256 .bf16) :
    k0_pay65 x g A B = gatedTile (normedTile x g) A B := by
  funext i; rw [← pay64_eq]; pointwise [k0_pay65]; rfl

theorem pay66_eq (x : Vec Ideal S512x1024 .f32) (g : Vec Ideal S1x1024 .f32) (A B : Vec Ideal S1024x256 .bf16) :
    k0_pay66 x g A B = gatedTile (normedTile x g) A B := by
  funext i; rw [← pay64_eq]; pointwise [k0_pay66]; rfl

theorem pay6_eq (y : FVec Ideal S512x1024 .bf16) (A B : Vec Ideal S1024x256 .bf16) :
    k0_pay6 y A B = gatedTile y A B := by
  funext i; pointwise [k0_pay6]; rfl

theorem pay9_eq (y : FVec Ideal S512x1024 .bf16) (A B : Vec Ideal S1024x256 .bf16) :
    k0_pay9 y A B = gatedTile y A B := by
  funext i; pointwise [k0_pay9]; rfl

theorem pay13_eq (y : FVec Ideal S512x1024 .bf16) (A B : Vec Ideal S1024x256 .bf16) :
    k0_pay13 y A B = gatedTile y A B := by
  funext i; pointwise [k0_pay13]; rfl

theorem pay17_eq (y : FVec Ideal S512x1024 .bf16) (A B : Vec Ideal S1024x256 .bf16) :
    k0_pay17 y A B = gatedTile y A B := by
  funext i; pointwise [k0_pay17]; rfl

theorem pay20_eq (y : FVec Ideal S512x1024 .bf16) (A B : Vec Ideal S1024x256 .bf16) :
    k0_pay20 y A B = gatedTile y A B := by
  funext i; pointwise [k0_pay20]; rfl

theorem pay23_eq (y : FVec Ideal S512x1024 .bf16) (A B : Vec Ideal S1024x256 .bf16) :
    k0_pay23 y A B = gatedTile y A B := by
  funext i; pointwise [k0_pay23]; rfl

theorem pay26_eq (y : FVec Ideal S512x1024 .bf16) (A B : Vec Ideal S1024x256 .bf16) :
    k0_pay26 y A B = gatedTile y A B := by
  funext i; pointwise [k0_pay26]; rfl

theorem pay29_eq (y : FVec Ideal S512x1024 .bf16) (A B : Vec Ideal S1024x256 .bf16) :
    k0_pay29 y A B = gatedTile y A B := by
  funext i; pointwise [k0_pay29]; rfl

theorem pay32_eq (y : FVec Ideal S512x1024 .bf16) (A B : Vec Ideal S1024x256 .bf16) :
    k0_pay32 y A B = gatedTile y A B := by
  funext i; pointwise [k0_pay32]; rfl

theorem pay40_eq (y : FVec Ideal S512x1024 .bf16) (A B : Vec Ideal S1024x256 .bf16) :
    k0_pay40 y A B = gatedTile y A B := by
  funext i; pointwise [k0_pay40]; rfl

theorem pay68_eq (y : FVec Ideal S512x1024 .bf16) (A B : Vec Ideal S1024x256 .bf16) :
    k0_pay68 y A B = gatedTile y A B := by
  funext i; pointwise [k0_pay68]; rfl

theorem pay69_eq (y : FVec Ideal S512x1024 .bf16) (A B : Vec Ideal S1024x256 .bf16) :
    k0_pay69 y A B = gatedTile y A B := by
  funext i; pointwise [k0_pay69]; rfl

theorem pay70_eq (y : FVec Ideal S512x1024 .bf16) (A B : Vec Ideal S1024x256 .bf16) :
    k0_pay70 y A B = gatedTile y A B := by
  funext i; pointwise [k0_pay70]; rfl

theorem pay72_eq (y : FVec Ideal S512x1024 .bf16) (A B : Vec Ideal S1024x256 .bf16) :
    k0_pay72 y A B = gatedTile y A B := by
  funext i; pointwise [k0_pay72]; rfl

theorem pay73_eq (y : FVec Ideal S512x1024 .bf16) (A B : Vec Ideal S1024x256 .bf16) :
    k0_pay73 y A B = gatedTile y A B := by
  funext i; pointwise [k0_pay73]; rfl

theorem pay74_eq (y : FVec Ideal S512x1024 .bf16) (A B : Vec Ideal S1024x256 .bf16) :
    k0_pay74 y A B = gatedTile y A B := by
  funext i; pointwise [k0_pay74]; rfl

theorem pay76_eq (y : FVec Ideal S512x1024 .bf16) (A B : Vec Ideal S1024x256 .bf16) :
    k0_pay76 y A B = gatedTile y A B := by
  funext i; pointwise [k0_pay76]; rfl

theorem pay77_eq (y : FVec Ideal S512x1024 .bf16) (A B : Vec Ideal S1024x256 .bf16) :
    k0_pay77 y A B = gatedTile y A B := by
  funext i; pointwise [k0_pay77]; rfl

theorem pay78_eq (y : FVec Ideal S512x1024 .bf16) (A B : Vec Ideal S1024x256 .bf16) :
    k0_pay78 y A B = gatedTile y A B := by
  funext i; pointwise [k0_pay78]; rfl

theorem pay36_eq (y : FVec Ideal S512x1024 .bf16) (A B : Vec Ideal S1024x256 .bf16) :
    k0_pay36 y (k0_pay35 y A) B (constant S512x256 .f32 0x00000000#32) = gatedTile y A B := by
  funext i; pointwise [k0_pay35, k0_pay36]; rfl

theorem pay10_eq (v : FVec Ideal S512x256 .f32) :
    k0_pay10 v = v := by
  funext i; pointwise [k0_pay10]

theorem pay67_eq (v : FVec Ideal S512x256 .bf16) :
    k0_pay67 v = v := by
  funext i; pointwise [k0_pay67]

theorem pay71_eq (v : FVec Ideal S512x256 .bf16) :
    k0_pay71 v = v := by
  funext i; pointwise [k0_pay71]

theorem pay75_eq (v : FVec Ideal S512x256 .bf16) :
    k0_pay75 v = v := by
  funext i; pointwise [k0_pay75]

theorem pay79_eq (v : FVec Ideal S512x256 .bf16) :
    k0_pay79 v = v := by
  funext i; pointwise [k0_pay79]

theorem pay16_eq (v : FVec Ideal S1024x256 .bf16) :
    k0_pay16 v = v := by
  funext i; pointwise [k0_pay16]

theorem pay39_eq (v : FVec Ideal S1024x256 .bf16) :
    k0_pay39 v = v := by
  funext i; pointwise [k0_pay39]

theorem pay45_eq (v : FVec Ideal S176x1024 .bf16) :
    k0_pay45 v = v := by
  funext i; pointwise [k0_pay45]

theorem pay52_eq (v : FVec Ideal S176x1024 .bf16) :
    k0_pay52 v = v := by
  funext i; pointwise [k0_pay52]

theorem pay59_eq (v : FVec Ideal S176x1024 .bf16) :
    k0_pay59 v = v := by
  funext i; pointwise [k0_pay59]

theorem pay41_eq (v : Vec Ideal S176x1024 .f32) :
    k0_pay41 v = v := by
  funext i; pointwise [k0_pay41]

theorem pay42_eq (v : Vec Ideal S176x1024 .f32) :
    k0_pay42 v = v := by
  funext i; pointwise [k0_pay42]

theorem pay43_eq (v : Vec Ideal S176x1024 .f32) :
    k0_pay43 v = v := by
  funext i; pointwise [k0_pay43]

theorem pay44_eq (v : Vec Ideal S176x1024 .f32) :
    k0_pay44 v = v := by
  funext i; pointwise [k0_pay44]

theorem pay46_eq (v : Vec Ideal S176x1024 .f32) :
    k0_pay46 v = v := by
  funext i; pointwise [k0_pay46]

theorem pay47_eq (v : Vec Ideal S176x1024 .f32) :
    k0_pay47 v = v := by
  funext i; pointwise [k0_pay47]

theorem pay48_eq (v : Vec Ideal S176x1024 .f32) :
    k0_pay48 v = v := by
  funext i; pointwise [k0_pay48]

theorem pay49_eq (v : Vec Ideal S176x1024 .f32) :
    k0_pay49 v = v := by
  funext i; pointwise [k0_pay49]

theorem pay50_eq (v : Vec Ideal S176x1024 .f32) :
    k0_pay50 v = v := by
  funext i; pointwise [k0_pay50]

theorem pay51_eq (v : Vec Ideal S176x1024 .f32) :
    k0_pay51 v = v := by
  funext i; pointwise [k0_pay51]

theorem pay53_eq (v : Vec Ideal S176x1024 .f32) :
    k0_pay53 v = v := by
  funext i; pointwise [k0_pay53]

theorem pay54_eq (v : Vec Ideal S176x1024 .f32) :
    k0_pay54 v = v := by
  funext i; pointwise [k0_pay54]

theorem pay55_eq (v : Vec Ideal S176x1024 .f32) :
    k0_pay55 v = v := by
  funext i; pointwise [k0_pay55]

theorem pay56_eq (v : Vec Ideal S176x1024 .f32) :
    k0_pay56 v = v := by
  funext i; pointwise [k0_pay56]

theorem pay57_eq (v : Vec Ideal S176x1024 .f32) :
    k0_pay57 v = v := by
  funext i; pointwise [k0_pay57]

theorem pay58_eq (v : Vec Ideal S176x1024 .f32) :
    k0_pay58 v = v := by
  funext i; pointwise [k0_pay58]

theorem pay4_eq (v : Vec Ideal S1x1x1024x256 .f32) :
    k0_pay4 v = stagePart v := by
  funext i; pointwise [k0_pay4]; rfl

theorem pay5_eq (v : Vec Ideal S1x1x1024x256 .f32) :
    k0_pay5 v = stagePart v := by
  funext i; pointwise [k0_pay5]; rfl

theorem pay7_eq (v : Vec Ideal S1x1x1024x256 .f32) :
    k0_pay7 v = stagePart v := by
  funext i; pointwise [k0_pay7]; rfl

theorem pay8_eq (v : Vec Ideal S1x1x1024x256 .f32) :
    k0_pay8 v = stagePart v := by
  funext i; pointwise [k0_pay8]; rfl

theorem pay11_eq (v : Vec Ideal S1x1x1024x256 .f32) :
    k0_pay11 v = stagePart v := by
  funext i; pointwise [k0_pay11]; rfl

theorem pay12_eq (v : Vec Ideal S1x1x1024x256 .f32) :
    k0_pay12 v = stagePart v := by
  funext i; pointwise [k0_pay12]; rfl

theorem pay14_eq (v : Vec Ideal S1x1x1024x256 .f32) :
    k0_pay14 v = stagePart v := by
  funext i; pointwise [k0_pay14]; rfl

theorem pay15_eq (v : Vec Ideal S1x1x1024x256 .f32) :
    k0_pay15 v = stagePart v := by
  funext i; pointwise [k0_pay15]; rfl

theorem pay18_eq (v : Vec Ideal S1x1x1024x256 .f32) :
    k0_pay18 v = stagePart v := by
  funext i; pointwise [k0_pay18]; rfl

theorem pay19_eq (v : Vec Ideal S1x1x1024x256 .f32) :
    k0_pay19 v = stagePart v := by
  funext i; pointwise [k0_pay19]; rfl

theorem pay21_eq (v : Vec Ideal S1x1x1024x256 .f32) :
    k0_pay21 v = stagePart v := by
  funext i; pointwise [k0_pay21]; rfl

theorem pay22_eq (v : Vec Ideal S1x1x1024x256 .f32) :
    k0_pay22 v = stagePart v := by
  funext i; pointwise [k0_pay22]; rfl

theorem pay24_eq (v : Vec Ideal S1x1x1024x256 .f32) :
    k0_pay24 v = stagePart v := by
  funext i; pointwise [k0_pay24]; rfl

theorem pay25_eq (v : Vec Ideal S1x1x1024x256 .f32) :
    k0_pay25 v = stagePart v := by
  funext i; pointwise [k0_pay25]; rfl

theorem pay27_eq (v : Vec Ideal S1x1x1024x256 .f32) :
    k0_pay27 v = stagePart v := by
  funext i; pointwise [k0_pay27]; rfl

theorem pay28_eq (v : Vec Ideal S1x1x1024x256 .f32) :
    k0_pay28 v = stagePart v := by
  funext i; pointwise [k0_pay28]; rfl

theorem pay30_eq (v : Vec Ideal S1x1x1024x256 .f32) :
    k0_pay30 v = stagePart v := by
  funext i; pointwise [k0_pay30]; rfl

theorem pay31_eq (v : Vec Ideal S1x1x1024x256 .f32) :
    k0_pay31 v = stagePart v := by
  funext i; pointwise [k0_pay31]; rfl

theorem pay33_eq (v : Vec Ideal S1x1x1024x256 .f32) :
    k0_pay33 v = stagePart v := by
  funext i; pointwise [k0_pay33]; rfl

theorem pay34_eq (v : Vec Ideal S1x1x1024x256 .f32) :
    k0_pay34 v = stagePart v := by
  funext i; pointwise [k0_pay34]; rfl

theorem pay37_eq (v : Vec Ideal S1x1x1024x256 .f32) :
    k0_pay37 v = stagePart v := by
  funext i; pointwise [k0_pay37]; rfl

theorem pay38_eq (v : Vec Ideal S1x1x1024x256 .f32) :
    k0_pay38 v = stagePart v := by
  funext i; pointwise [k0_pay38]; rfl

theorem pay60_eq (a : Vec Ideal S512x2816 .bf16) (V : Vec Ideal S2816x512 .bf16) :
    k0_pay60 a V = halfTile a V := by
  funext i; pointwise [k0_pay60]; rfl

theorem pay61_eq (a : Vec Ideal S512x2816 .bf16) (V : Vec Ideal S2816x512 .bf16) :
    k0_pay61 a V = halfTile a V := by
  funext i; pointwise [k0_pay61]; rfl

theorem pay80_eq (a : Vec Ideal S512x2816 .bf16) (V : Vec Ideal S2816x512 .bf16) :
    k0_pay80 a V = halfTile a V := by
  funext i; pointwise [k0_pay80]; rfl

theorem pay81_eq (a : Vec Ideal S512x2816 .bf16) (V : Vec Ideal S2816x512 .bf16) :
    k0_pay81 a V = halfTile a V := by
  funext i; pointwise [k0_pay81]; rfl

theorem pay62_apply (a b : Vec Ideal S512x2816 .bf16) (V W : Vec Ideal S2816x512 .bf16) (i : S512x1.Idx) :
    k0_pay62 a V b W i = halfScale (halfTile a V) (halfTile b W) (i 0) := by
  rw [← pay60_eq, ← pay61_eq]; pointwise [k0_pay62]; rfl

theorem pay82_apply (a b : Vec Ideal S512x2816 .bf16) (V W : Vec Ideal S2816x512 .bf16) (i : S512x1.Idx) :
    k0_pay82 a V b W i = halfScale (halfTile a V) (halfTile b W) (i 0) := by
  rw [← pay80_eq, ← pay81_eq]; pointwise [k0_pay82]; rfl

theorem pay63_eq (a b : Vec Ideal S512x2816 .bf16) (V W : Vec Ideal S2816x512 .bf16) (x : Vec Ideal S512x512 .f32) (q : Vec Ideal S1x512 .f32) :
    k0_pay63 a V b W x q = halfOut x (halfTile a V) (halfScale (halfTile a V) (halfTile b W)) q := by
  funext i; pointwise [k0_pay63]; rw [pay62_apply, pay60_eq]; rfl

theorem pay83_eq (a b : Vec Ideal S512x2816 .bf16) (V W : Vec Ideal S2816x512 .bf16) (x : Vec Ideal S512x512 .f32) (q : Vec Ideal S1x512 .f32) :
    k0_pay83 a V b W x q = halfOut x (halfTile a V) (halfScale (halfTile a V) (halfTile b W)) q := by
  funext i; pointwise [k0_pay83]; rw [pay82_apply, pay80_eq]; rfl

theorem pay2_eq (a b : Vec Ideal S512x2816 .bf16) (V W : Vec Ideal S2816x512 .bf16) (x : Vec Ideal S512x512 .f32) (q : Vec Ideal S1x512 .f32) :
    k0_pay2 x (k0_pay84 a V b W) q = halfOut x (halfTile b W) (halfScale (halfTile a V) (halfTile b W)) q := by
  funext i; pointwise [k0_pay2, k0_pay84]; rw [pay82_apply, pay81_eq]; rfl

theorem pay1_eq (a b : Vec Ideal S512x2816 .bf16) (V W : Vec Ideal S2816x512 .bf16) (x : Vec Ideal S512x512 .f32) (q : Vec Ideal S1x512 .f32) :
    k0_pay1 (k0_pay61 b W) (k0_pay62 a V b W) x q = halfOut x (halfTile b W) (halfScale (halfTile a V) (halfTile b W)) q := by
  funext i; pointwise [k0_pay1]; rw [pay62_apply, pay61_eq]; rfl

end Cert.KernelIdeal.Ffn

end
-- ==== Proof.LaterValue.lean ====
module

public import proofs.«01_k».proof.Proof.RunLater
public import proofs.«01_k».proof.Proof.Tiles

@[expose] public section

/-! What a point after the first leaves in the output's buffer: the tile's function of the blocks and of the weights' scratch. -/

set_option maxRecDepth 16384

noncomputable section

namespace Cert.KernelIdeal.Ffn

open Cert.KernelIdeal Cert.KernelIdeal.Gen
open Idealize.ShloMosaic Idealize.ShloMosaic.TcCoe

/-- A load from a buffer held at the contents that read `X`. -/
theorem load_held {κ : Kind} {sp : Space} {s : Shape} {e : EltTy} {Val : EltTy → Type} {M : Memref sig κ sp s e} (h : M.IsWhole)
    (X : s.Idx → Val e) (B : LoadRect s) : View.readAt Val M.view B (h.unread X) = fun j => X (B.idx j) :=
  funext fun j => h.readAt_unread X B j

/-- The block that is the whole matrix holds each index in its own place. -/
theorem unit_idx_whole {a b : ℕ} (inb : ∀ d, (![0, 0] : Fin 2 → ℕ) d + (⟨2, ![a, b]⟩ : Shape).size d ≤ (⟨2, ![a, b]⟩ : Shape).size d)
    (x : (⟨2, ![a, b]⟩ : Shape).Idx) :
    (Rect.unit (s := ⟨2, ![a, b]⟩) ![0, 0] (⟨2, ![a, b]⟩ : Shape).size inb).toLoadRect.idx x = x := by
  refine (unit_idx inb x).trans ?_
  conv_rhs => rw [eq_ix2 x]
  refine congrArg₂ ix2 (Fin.ext ?_) (Fin.ext ?_) <;> simp

/-- A load of the whole matrix after stores reads what the stores leave. -/
theorem readCov_whole {Val : EltTy → Type} [∀ e, Nonempty (Val e)] {κ : Kind} {sp : Space} {a b : ℕ} {e : EltTy} (v : View sig κ sp ⟨2, ![a, b]⟩ e)
    (L : List (View.Piece Val ⟨2, ![a, b]⟩ e))
    (inb : ∀ d, (![0, 0] : Fin 2 → ℕ) d + (⟨2, ![a, b]⟩ : Shape).size d ≤ (⟨2, ![a, b]⟩ : Shape).size d) :
    v.readCov L (Rect.unit (s := ⟨2, ![a, b]⟩) ![0, 0] (⟨2, ![a, b]⟩ : Shape).size inb).toLoadRect = View.canon L := by
  rw [View.readCov_eq_canon']
  exact funext fun j => congrArg _ (unit_idx_whole _ j)

/-- Stores that are blocks of `G` and cover the buffer leave `G`. -/
theorem canon_eq_of_pieces {Val : EltTy → Type} [∀ e, Nonempty (Val e)] {s : Shape} {e : EltTy} (G : s.Idx → Val e)
    (L : List (View.Piece Val s e)) (hc : ∀ y, ∃ p ∈ L, y ∈ p.1.set) (h : View.PiecesOf G L) : View.canon L = G :=
  funext fun y => (congrFun (congrArg View.canon (List.append_nil L).symm) y).trans (View.canon_append_of_piecesOf G [] L h y (hc y))

/-- Stores that cover the buffer read back as what they leave. -/
theorem read_of_canon {Val : EltTy → Type} [∀ e, Nonempty (Val e)] {κ : Kind} {sp : Space} {s : Shape} {e : EltTy} (v : View sig κ sp s e)
    (f : v.ty.Contents Val) (L : List (View.Piece Val s e)) (G : s.Idx → Val e) (hc : ∀ y, ∃ p ∈ L, y ∈ p.1.set) (h : View.canon L = G) :
    v.read Val (v.writes Val f L) = G :=
  (funext fun y => View.read_writes_apply_eq_canon v f y L (hc y)).trans h

section

variable (c : Dev nD) (i : grid0.Coords) (arg1 : Memref sig .tc .vmem S512x1024 .f32) (harg1 : arg1.IsWhole)
  (arg2 : Memref sig .tc .vmem S1x1024 .f32) (harg2 : arg2.IsWhole) (arg5 : Memref sig .tc .vmem S1x1024 .f32) (harg5 : arg5.IsWhole)
  (arg6 : Memref sig .tc .vmem S512x1024 .f32) (harg6 : arg6.IsWhole) (arg7 : Memref sig .tc .vmem S1024x5632 .bf16) (harg7 : arg7.IsWhole)
  (arg8 : Memref sig .tc .vmem S2816x1152 .bf16) (harg8 : arg8.IsWhole) (arg9 : Memref sig .tc .vmem S2x2x1024x256 .f32) (harg9 : arg9.IsWhole)
  (arg10 : Memref sig .tc .vmem S2816x1024 .f32) (harg10 : arg10.IsWhole) (arg13 : Memref sig .tc .vmem S512x2816 .bf16) (harg13 : arg13.IsWhole)
  (x0 : Vec Ideal S512x1024 .f32) (x1 x2 : Vec Ideal S1x1024 .f32) (xs0 : Vec Ideal S1024x5632 .bf16) (xs1 : Vec Ideal S2816x1152 .bf16)

/-- The normalized rows the point computes. -/
theorem later_normed : kernelRun0_B.sl.r (F := Ideal) c arg1 harg1 arg2 harg2 x0 x1 = normedTile x0 x1 := by
  unfold kernelRun0_B.sl.r
  rw [load_held, load_held, pay64_eq]
  refine congrArg₂ normedTile (funext fun j => congrArg x0 (unit_idx_whole _ j)) (funext fun j => congrArg x1 (unit_idx_whole _ j))

/-- The hidden scratch the point fills, read back whole. -/
theorem later_hidden :
    kernelRun0_B.sl.v142 (F := Ideal) c arg1 harg1 arg2 harg2 arg7 harg7 arg13 x0 x1 xs0 = hiddenTile (normedTile x0 x1) xs0 := by
  unfold kernelRun0_B.sl.v142
  refine (readCov_whole _ _ _).trans (canon_eq_of_pieces _ _ (View.cover_of_tiledL _ S512x256.size (by sl_kernel_rfl)) ?_)
  unfold kernelRun0_B.sl.HS4_11 kernelRun0_B.sl.r_1 kernelRun0_B.sl.r_2 kernelRun0_B.sl.r_3 kernelRun0_B.sl.r_4
  have en := later_normed c arg1 harg1 arg2 harg2 x0 x1
  have e0 : (fun j => x0 ((Rect.unit (s := S512x1024) ![0, 0] S512x1024.size inb_S512x1024_S512x1024_0_0).toLoadRect.idx j)) = x0 :=
    funext fun j => congrArg x0 (unit_idx_whole _ j)
  have e1 : (fun j => x1 ((Rect.unit (s := S1x1024) ![0, 0] S1x1024.size inb_S1x1024_S1x1024_0_0).toLoadRect.idx j)) = x1 :=
    funext fun j => congrArg x1 (unit_idx_whole _ j)
  refine ⟨fun x => ?_, fun x => ?_, fun x => ?_, fun x => ?_, fun x => ?_, fun x => ?_, fun x => ?_, fun x => ?_, fun x => ?_, fun x => ?_, fun x => ?_, trivial⟩ <;>
    simp only [load_held, pay65_eq, pay66_eq, pay67_eq, pay68_eq, pay69_eq, pay70_eq, pay71_eq, pay72_eq, pay73_eq, pay74_eq, pay75_eq, pay76_eq, pay77_eq, pay78_eq, pay79_eq, en, e0, e1] <;>
    exact gatedTile_block (normedTile x0 x1) xs0 (by norm_num) _ _ _ x

/-- The two halves' factor, with the halves as blocks of the down projection's scratch. -/
theorem halves_scale (a : S512x2816.Idx → EReal) (D : S2816x1152.Idx → EReal)
    (inb0 : ∀ d, (![0, 0] : Fin 2 → ℕ) d + S2816x512.size d ≤ S2816x1152.size d)
    (inb1 : ∀ d, (![0, 512] : Fin 2 → ℕ) d + S2816x512.size d ≤ S2816x1152.size d) (r : Fin 512) :
    halfScale (halfTile a (fun j => D ((Rect.unit (s := S2816x1152) ![0, 0] S2816x512.size inb0).toLoadRect.idx j)))
        (halfTile a (fun j => D ((Rect.unit (s := S2816x1152) ![0, 512] S2816x512.size inb1).toLoadRect.idx j))) r
      = Ideal.ofBits .f32 0x3F000000#32 * Row.scale (feedTile a (downCols D) r) :=
  halfScale_eq a (downCols D) _ _ r
    (fun k => (halfTile_block a D inb0 r k (by omega)).trans (congrArg (feedTile a (downCols D) r) (Fin.ext (Nat.zero_add _))))
    (fun k => halfTile_block a D inb1 r k (by omega))

theorem later_out (hc0 : ¬cond0_0 i) (hc1 : cond0_1 i) (fh0 : HbBuf0 (F := Ideal) c hbM0_0) (fh1 : HbBuf0 (F := Ideal) c hbM0_1) :
    View.canon (kernelRun0_B (F := Ideal) c i arg1 harg1 arg2 harg2 arg5 harg5 arg6 harg6 arg7 harg7 arg8 harg8 arg9 harg9 arg10 harg10
        arg13 harg13 hc0 hc1 x0 x1 x2 xs0 xs1 fh0 fh1).1
      = outTile x0 (hiddenTile (normedTile x0 x1) xs0) (downCols xs1) x2 := by
  have hh := later_hidden c arg1 harg1 arg2 harg2 arg7 harg7 arg13 x0 x1 xs0
  refine canon_eq_of_pieces _ _ (View.cover_of_tiledL _ S512x512.size (by sl_kernel_rfl)) ?_
  unfold kernelRun0_B
  refine ⟨fun x => ?_, fun x => ?_, trivial⟩
  · unfold kernelRun0_B.sl.r_5 kernelRun0_B.sl.r_6
    simp only [load_held, hh, pay2_eq]
    exact halfOut_block x0 _ (downCols xs1) x2 (by norm_num) _ _ _ _ (fun r k => halfTile_block _ xs1 _ r k (by omega)) (halves_scale _ xs1 _ _) x
  · simp only [load_held, hh, pay83_eq]
    exact halfOut_block x0 _ (downCols xs1) x2 (by norm_num) _ _ _ _ (fun r k => halfTile_block _ xs1 _ r k (by omega)) (halves_scale _ xs1 _ _) x

theorem later_cover (hc0 : ¬cond0_0 i) (hc1 : cond0_1 i) (fh0 : HbBuf0 (F := Ideal) c hbM0_0) (fh1 : HbBuf0 (F := Ideal) c hbM0_1) (y : S512x1024.Idx) :
    ∃ p ∈ (kernelRun0_B (F := Ideal) c i arg1 harg1 arg2 harg2 arg5 harg5 arg6 harg6 arg7 harg7 arg8 harg8 arg9 harg9 arg10 harg10
        arg13 harg13 hc0 hc1 x0 x1 x2 xs0 xs1 fh0 fh1).1, y ∈ p.1.set :=
  View.cover_of_tiledL (kernelRun0_B (F := Ideal) c i arg1 harg1 arg2 harg2 arg5 harg5 arg6 harg6 arg7 harg7 arg8 harg8 arg9 harg9 arg10 harg10
        arg13 harg13 hc0 hc1 x0 x1 x2 xs0 xs1 fh0 fh1).1 S512x512.size (by sl_kernel_rfl) y

/-- The same, read off the output's buffer. -/
theorem later_read (hc0 : ¬cond0_0 i) (hc1 : cond0_1 i) (fh0 : HbBuf0 (F := Ideal) c hbM0_0) (fh1 : HbBuf0 (F := Ideal) c hbM0_1)
    (f : arg6.view.ty.Contents (Elt Ideal)) :
    arg6.view.read (Elt Ideal) (arg6.view.writes (Elt Ideal) f (kernelRun0_B (F := Ideal) c i arg1 harg1 arg2 harg2 arg5 harg5 arg6 harg6 arg7 harg7 arg8 harg8 arg9 harg9 arg10 harg10
        arg13 harg13 hc0 hc1 x0 x1 x2 xs0 xs1 fh0 fh1).1)
      = outTile x0 (hiddenTile (normedTile x0 x1) xs0) (downCols xs1) x2 :=
  read_of_canon arg6.view f (kernelRun0_B (F := Ideal) c i arg1 harg1 arg2 harg2 arg5 harg5 arg6 harg6 arg7 harg7 arg8 harg8 arg9 harg9 arg10 harg10
        arg13 harg13 hc0 hc1 x0 x1 x2 xs0 xs1 fh0 fh1).1 _
    (later_cover c i arg1 harg1 arg2 harg2 arg5 harg5 arg6 harg6 arg7 harg7 arg8 harg8 arg9 harg9 arg10 harg10
        arg13 harg13 x0 x1 x2 xs0 xs1 hc0 hc1 fh0 fh1) (later_out c i arg1 harg1 arg2 harg2 arg5 harg5 arg6 harg6 arg7 harg7 arg8 harg8 arg9 harg9 arg10 harg10
        arg13 harg13 x0 x1 x2 xs0 xs1 hc0 hc1 fh0 fh1)

end

end Cert.KernelIdeal.Ffn

end
-- ==== Proof.FirstStage.lean ====
module

public import proofs.«01_k».proof.Proof.RunFirst
public import proofs.«01_k».proof.Proof.LaterValue
public import Idealize.ShloMosaic.Lib.ValueLayout
public import Idealize.ShloMosaic.Lib.ViewIndex

@[expose] public section

/-! What the first point stages: the gate and up projections' scratch ends at the operand, a chunk of columns at a time. -/

set_option maxRecDepth 16384

noncomputable section

namespace Cert.KernelIdeal.Ffn

open Cert.KernelIdeal Cert.KernelIdeal.Gen
open Idealize.ShloMosaic Idealize.ShloMosaic.TcCoe

/-- The gate and up projections' matrix, read off the operand's buffer. -/
def guOf (c : Dev nD) (fh0 : HbBuf0 (F := Ideal) c hbM0_0) : S1024x5632.Idx → EReal := hbM0_0.view.read (Elt Ideal) fh0

/-- The down projection's matrix, read off the operand's buffer. -/
def downOf (c : Dev nD) (fh1 : HbBuf0 (F := Ideal) c hbM0_1) : Fin 2816 → Fin 1024 → EReal :=
  fun j n => hbM0_1.view.read (Elt Ideal) fh1 (ix2 j n)

/-! ## One staged chunk -/

/-- A part of the ring, as a copy's destination. -/
abbrev ringPart (arg9 : Memref sig .tc .vmem S2x2x1024x256 .f32) (a b : ℕ)
    (inb : ∀ d, (![a, b, 0, 0] : Fin 4 → ℕ) d + S1x1x1024x256.size d ≤ S2x2x1024x256.size d)
    (h : ∀ d, (Rect.unit (s := S2x2x1024x256) ![a, b, 0, 0] S1x1x1024x256.size inb).stride d = 1) : Memref sig .tc .vmem S1024x256 .f32 :=
  (arg9.slice (Rect.unit ![a, b, 0, 0] S1x1x1024x256.size inb) h).squeeze S1024x256 squeezes_S1x1x1024x256_S1024x256

/-- A part just copied into reads what was copied. -/
theorem ring_self (arg9 : Memref sig .tc .vmem S2x2x1024x256 .f32) (a b : ℕ)
    (inb : ∀ d, (![a, b, 0, 0] : Fin 4 → ℕ) d + S1x1x1024x256.size d ≤ S2x2x1024x256.size d)
    (h : ∀ d, (Rect.unit (s := S2x2x1024x256) ![a, b, 0, 0] S1x1x1024x256.size inb).stride d = 1)
    (f : arg9.view.ty.Contents (Elt Ideal)) (d : S1024x256.Idx → EReal) :
    stagePart (View.readAt (Elt Ideal) arg9.view (Rect.unit (s := S2x2x1024x256) ![a, b, 0, 0] S1x1x1024x256.size inb).toLoadRect
        (View.write (Elt Ideal) (ringPart arg9 a b inb h).view f d Finset.univ)) = d := by
  funext x
  refine Eq.trans ?_ (congrFun (View.read_write_univ (Val := Elt Ideal) (v := (ringPart arg9 a b inb h).view) f d) x)
  unfold stagePart
  have e : Shape.reshapeEquiv (squeezes_S1x1x1024x256_S1024x256.numel_eq) x = (ix4 0 0 (x 0) (x 1) : S1x1x1024x256.Idx) :=
    (congrArg (Shape.reshapeEquiv (squeezes_S1x1x1024x256_S1024x256.numel_eq)) (eq_ix2 x)).trans
      (ValueIdx.reshapeEquiv_ix2_11ab squeezes_S1x1x1024x256_S1024x256.numel_eq (x 0) (x 1))
  exact congrArg ((arg9.view.slice (Rect.unit ![a, b, 0, 0] S1x1x1024x256.size inb)).read (Elt Ideal)
    (View.write (Elt Ideal) (ringPart arg9 a b inb h).view f d Finset.univ)) e.symm

/-- Another part reads what it held. -/
theorem ring_other (arg9 : Memref sig .tc .vmem S2x2x1024x256 .f32) (a b : ℕ)
    (inb : ∀ d, (![a, b, 0, 0] : Fin 4 → ℕ) d + S1x1x1024x256.size d ≤ S2x2x1024x256.size d)
    (h : ∀ d, (Rect.unit (s := S2x2x1024x256) ![a, b, 0, 0] S1x1x1024x256.size inb).stride d = 1)
    (B : LoadRect S2x2x1024x256) (hd : LoadRect.disj (Rect.unit (s := S2x2x1024x256) ![a, b, 0, 0] S1x1x1024x256.size inb) B = true)
    (f : arg9.view.ty.Contents (Elt Ideal)) (d : S1024x256.Idx → EReal) :
    View.readAt (Elt Ideal) arg9.view B (View.write (Elt Ideal) (ringPart arg9 a b inb h).view f d Finset.univ)
      = View.readAt (Elt Ideal) arg9.view B f := by
  funext j
  rw [View.readAt_apply, View.readAt_apply, View.read_apply, View.read_apply]
  refine congrArg _ (View.write_of_not_mem _ _ _ fun hm => LoadRect.idx_not_mem_of_disj hd j ?_)
  have hm' : arg9.view.emb (B.idx j) ∈ ((arg9.view.slice (Rect.unit (s := S2x2x1024x256) ![a, b, 0, 0] S1x1x1024x256.size inb)).reshape S1024x256 squeezes_S1x1x1024x256_S1024x256.numel_eq).set := hm
  rw [View.set_reshape, View.set_slice] at hm'
  exact (Finset.mem_map' arg9.view.emb).mp hm'

/-- A load of a block stored as a block of `G`, among stores of blocks of `G`, is the block of `G`. -/
theorem readCov_block {Val : EltTy → Type} [∀ e, Nonempty (Val e)] {κ : Kind} {sp : Space} {s : Shape} {e : EltTy} (v : View sig κ sp s e)
    (G : s.Idx → Val e) (L : List (View.Piece Val s e)) (h : View.PiecesOf G L) (r : Rect s) (hr : ∃ p ∈ L, r.set ⊆ p.1.set) :
    v.readCov L r.toLoadRect = fun j => G (r.toLoadRect.idx j) := by
  rw [View.readCov_eq_canon']
  obtain ⟨p, hp, hs⟩ := hr
  refine funext fun j => (congrFun (congrArg View.canon (List.append_nil L).symm) _).trans
    (View.canon_append_of_piecesOf G [] L h _ ⟨p, hp, hs ?_⟩)
  exact r.toLoadRect.idx_mem j

/-! ## The chunks -/

section

variable (c : Dev nD) (arg7 : Memref sig .tc .vmem S1024x5632 .bf16) (arg9 : Memref sig .tc .vmem S2x2x1024x256 .f32)
  (fh0 : HbBuf0 (F := Ideal) c hbM0_0) (g : arg9.view.ty.Contents (Elt Ideal))

theorem gate_0 : stagePart (kernelRun0_A.sl.v48 (F := Ideal) c arg9 fh0 g)
    = fun x => guOf c fh0 ((Rect.unit (s := S1024x5632) ![0, 0] S1024x256.size inb_S1024x5632_S1024x256_0_0).emb x) := by
  unfold kernelRun0_A.sl.v48
  rw [ring_other _ _ _ _ _ _ rfl, ring_other _ _ _ _ _ _ rfl, ring_other _ _ _ _ _ _ rfl]
  exact ring_self arg9 _ _ _ _ _ _

theorem up_0 : stagePart (kernelRun0_A.sl.v59 (F := Ideal) c arg9 fh0 g)
    = fun x => guOf c fh0 ((Rect.unit (s := S1024x5632) ![0, 2816] S1024x256.size inb_S1024x5632_S1024x256_0_2816).emb x) := by
  unfold kernelRun0_A.sl.v59
  rw [ring_other _ _ _ _ _ _ rfl, ring_other _ _ _ _ _ _ rfl]
  exact ring_self arg9 _ _ _ _ _ _

theorem gate_1 : stagePart (kernelRun0_A.sl.v91 (F := Ideal) c arg9 fh0 g)
    = fun x => guOf c fh0 ((Rect.unit (s := S1024x5632) ![0, 256] S1024x256.size inb_S1024x5632_S1024x256_0_256).emb x) := by
  unfold kernelRun0_A.sl.v91
  rw [ring_other _ _ _ _ _ _ rfl, ring_other _ _ _ _ _ _ rfl, ring_other _ _ _ _ _ _ rfl]
  exact ring_self arg9 _ _ _ _ _ _

theorem up_1 : stagePart (kernelRun0_A.sl.v102 (F := Ideal) c arg9 fh0 g)
    = fun x => guOf c fh0 ((Rect.unit (s := S1024x5632) ![0, 3072] S1024x256.size inb_S1024x5632_S1024x256_0_3072).emb x) := by
  unfold kernelRun0_A.sl.v102
  rw [ring_other _ _ _ _ _ _ rfl, ring_other _ _ _ _ _ _ rfl]
  exact ring_self arg9 _ _ _ _ _ _

theorem gate_2 : stagePart (kernelRun0_A.sl.v134 (F := Ideal) c arg9 fh0 g)
    = fun x => guOf c fh0 ((Rect.unit (s := S1024x5632) ![0, 512] S1024x256.size inb_S1024x5632_S1024x256_0_512).emb x) := by
  unfold kernelRun0_A.sl.v134
  rw [ring_other _ _ _ _ _ _ rfl, ring_other _ _ _ _ _ _ rfl, ring_other _ _ _ _ _ _ rfl]
  exact ring_self arg9 _ _ _ _ _ _

theorem up_2 : stagePart (kernelRun0_A.sl.v145 (F := Ideal) c arg9 fh0 g)
    = fun x => guOf c fh0 ((Rect.unit (s := S1024x5632) ![0, 3328] S1024x256.size inb_S1024x5632_S1024x256_0_3328).emb x) := by
  unfold kernelRun0_A.sl.v145
  rw [ring_other _ _ _ _ _ _ rfl, ring_other _ _ _ _ _ _ rfl]
  exact ring_self arg9 _ _ _ _ _ _

theorem gate_3 : stagePart (kernelRun0_A.sl.v177 (F := Ideal) c arg9 fh0 g)
    = fun x => guOf c fh0 ((Rect.unit (s := S1024x5632) ![0, 768] S1024x256.size inb_S1024x5632_S1024x256_0_768).emb x) := by
  unfold kernelRun0_A.sl.v177
  rw [ring_other _ _ _ _ _ _ rfl, ring_other _ _ _ _ _ _ rfl, ring_other _ _ _ _ _ _ rfl]
  exact ring_self arg9 _ _ _ _ _ _

theorem up_3 : stagePart (kernelRun0_A.sl.v188 (F := Ideal) c arg9 fh0 g)
    = fun x => guOf c fh0 ((Rect.unit (s := S1024x5632) ![0, 3584] S1024x256.size inb_S1024x5632_S1024x256_0_3584).emb x) := by
  unfold kernelRun0_A.sl.v188
  rw [ring_other _ _ _ _ _ _ rfl, ring_other _ _ _ _ _ _ rfl]
  exact ring_self arg9 _ _ _ _ _ _

theorem gate_4 : stagePart (kernelRun0_A.sl.v220 (F := Ideal) c arg9 fh0 g)
    = fun x => guOf c fh0 ((Rect.unit (s := S1024x5632) ![0, 1024] S1024x256.size inb_S1024x5632_S1024x256_0_1024).emb x) := by
  unfold kernelRun0_A.sl.v220
  rw [ring_other _ _ _ _ _ _ rfl, ring_other _ _ _ _ _ _ rfl, ring_other _ _ _ _ _ _ rfl]
  exact ring_self arg9 _ _ _ _ _ _

theorem up_4 : stagePart (kernelRun0_A.sl.v231 (F := Ideal) c arg9 fh0 g)
    = fun x => guOf c fh0 ((Rect.unit (s := S1024x5632) ![0, 3840] S1024x256.size inb_S1024x5632_S1024x256_0_3840).emb x) := by
  unfold kernelRun0_A.sl.v231
  rw [ring_other _ _ _ _ _ _ rfl, ring_other _ _ _ _ _ _ rfl]
  exact ring_self arg9 _ _ _ _ _ _

theorem gate_5 : stagePart (kernelRun0_A.sl.v263 (F := Ideal) c arg9 fh0 g)
    = fun x => guOf c fh0 ((Rect.unit (s := S1024x5632) ![0, 1280] S1024x256.size inb_S1024x5632_S1024x256_0_1280).emb x) := by
  unfold kernelRun0_A.sl.v263
  rw [ring_other _ _ _ _ _ _ rfl, ring_other _ _ _ _ _ _ rfl, ring_other _ _ _ _ _ _ rfl]
  exact ring_self arg9 _ _ _ _ _ _

theorem up_5 : stagePart (kernelRun0_A.sl.v274 (F := Ideal) c arg9 fh0 g)
    = fun x => guOf c fh0 ((Rect.unit (s := S1024x5632) ![0, 4096] S1024x256.size inb_S1024x5632_S1024x256_0_4096).emb x) := by
  unfold kernelRun0_A.sl.v274
  rw [ring_other _ _ _ _ _ _ rfl, ring_other _ _ _ _ _ _ rfl]
  exact ring_self arg9 _ _ _ _ _ _

theorem gate_6 : stagePart (kernelRun0_A.sl.v306 (F := Ideal) c arg9 fh0 g)
    = fun x => guOf c fh0 ((Rect.unit (s := S1024x5632) ![0, 1536] S1024x256.size inb_S1024x5632_S1024x256_0_1536).emb x) := by
  unfold kernelRun0_A.sl.v306
  rw [ring_other _ _ _ _ _ _ rfl, ring_other _ _ _ _ _ _ rfl, ring_other _ _ _ _ _ _ rfl]
  exact ring_self arg9 _ _ _ _ _ _

theorem up_6 : stagePart (kernelRun0_A.sl.v317 (F := Ideal) c arg9 fh0 g)
    = fun x => guOf c fh0 ((Rect.unit (s := S1024x5632) ![0, 4352] S1024x256.size inb_S1024x5632_S1024x256_0_4352).emb x) := by
  unfold kernelRun0_A.sl.v317
  rw [ring_other _ _ _ _ _ _ rfl, ring_other _ _ _ _ _ _ rfl]
  exact ring_self arg9 _ _ _ _ _ _

theorem gate_7 : stagePart (kernelRun0_A.sl.v349 (F := Ideal) c arg9 fh0 g)
    = fun x => guOf c fh0 ((Rect.unit (s := S1024x5632) ![0, 1792] S1024x256.size inb_S1024x5632_S1024x256_0_1792).emb x) := by
  unfold kernelRun0_A.sl.v349
  rw [ring_other _ _ _ _ _ _ rfl, ring_other _ _ _ _ _ _ rfl, ring_other _ _ _ _ _ _ rfl]
  exact ring_self arg9 _ _ _ _ _ _

theorem up_7 : stagePart (kernelRun0_A.sl.v360 (F := Ideal) c arg9 fh0 g)
    = fun x => guOf c fh0 ((Rect.unit (s := S1024x5632) ![0, 4608] S1024x256.size inb_S1024x5632_S1024x256_0_4608).emb x) := by
  unfold kernelRun0_A.sl.v360
  rw [ring_other _ _ _ _ _ _ rfl, ring_other _ _ _ _ _ _ rfl]
  exact ring_self arg9 _ _ _ _ _ _

theorem gate_8 : stagePart (kernelRun0_A.sl.v392 (F := Ideal) c arg9 fh0 g)
    = fun x => guOf c fh0 ((Rect.unit (s := S1024x5632) ![0, 2048] S1024x256.size inb_S1024x5632_S1024x256_0_2048).emb x) := by
  unfold kernelRun0_A.sl.v392
  rw [ring_other _ _ _ _ _ _ rfl, ring_other _ _ _ _ _ _ rfl, ring_other _ _ _ _ _ _ rfl]
  exact ring_self arg9 _ _ _ _ _ _

theorem up_8 : stagePart (kernelRun0_A.sl.v403 (F := Ideal) c arg9 fh0 g)
    = fun x => guOf c fh0 ((Rect.unit (s := S1024x5632) ![0, 4864] S1024x256.size inb_S1024x5632_S1024x256_0_4864).emb x) := by
  unfold kernelRun0_A.sl.v403
  rw [ring_other _ _ _ _ _ _ rfl, ring_other _ _ _ _ _ _ rfl]
  exact ring_self arg9 _ _ _ _ _ _

theorem gate_9 : stagePart (kernelRun0_A.sl.v435 (F := Ideal) c arg9 fh0 g)
    = fun x => guOf c fh0 ((Rect.unit (s := S1024x5632) ![0, 2304] S1024x256.size inb_S1024x5632_S1024x256_0_2304).emb x) := by
  unfold kernelRun0_A.sl.v435
  rw [ring_other _ _ _ _ _ _ rfl, ring_other _ _ _ _ _ _ rfl, ring_other _ _ _ _ _ _ rfl]
  exact ring_self arg9 _ _ _ _ _ _

theorem up_9 : stagePart (kernelRun0_A.sl.v446 (F := Ideal) c arg9 fh0 g)
    = fun x => guOf c fh0 ((Rect.unit (s := S1024x5632) ![0, 5120] S1024x256.size inb_S1024x5632_S1024x256_0_5120).emb x) := by
  unfold kernelRun0_A.sl.v446
  rw [ring_other _ _ _ _ _ _ rfl, ring_other _ _ _ _ _ _ rfl]
  exact ring_self arg9 _ _ _ _ _ _

theorem gate_10 : stagePart (kernelRun0_A.sl.v468 (F := Ideal) c arg9 fh0 g)
    = fun x => guOf c fh0 ((Rect.unit (s := S1024x5632) ![0, 2560] S1024x256.size inb_S1024x5632_S1024x256_0_2560).emb x) := by
  unfold kernelRun0_A.sl.v468
  rw [ring_other _ _ _ _ _ _ rfl]
  exact ring_self arg9 _ _ _ _ _ _

theorem up_10 : stagePart (kernelRun0_A.sl.v479 (F := Ideal) c arg9 fh0 g)
    = fun x => guOf c fh0 ((Rect.unit (s := S1024x5632) ![0, 5376] S1024x256.size inb_S1024x5632_S1024x256_0_5376).emb x) := by
  unfold kernelRun0_A.sl.v479
  skip
  exact ring_self arg9 _ _ _ _ _ _

theorem pieces_2 : View.PiecesOf (guOf c fh0) (kernelRun0_A.sl.HS0_2 (F := Ideal) c arg9 fh0 g) :=
  ⟨fun x => congrFun ((pay5_eq _).trans (up_0 c arg9 fh0 g)) x, fun x => congrFun ((pay4_eq _).trans (gate_0 c arg9 fh0 g)) x, trivial⟩

theorem pieces_4 : View.PiecesOf (guOf c fh0) (kernelRun0_A.sl.HS0_4 (F := Ideal) c arg9 fh0 g) :=
  ⟨fun x => congrFun ((pay8_eq _).trans (up_1 c arg9 fh0 g)) x, fun x => congrFun ((pay7_eq _).trans (gate_1 c arg9 fh0 g)) x, pieces_2 c arg9 fh0 g⟩

theorem pieces_6 : View.PiecesOf (guOf c fh0) (kernelRun0_A.sl.HS0_6 (F := Ideal) c arg9 fh0 g) :=
  ⟨fun x => congrFun ((pay12_eq _).trans (up_2 c arg9 fh0 g)) x, fun x => congrFun ((pay11_eq _).trans (gate_2 c arg9 fh0 g)) x, pieces_4 c arg9 fh0 g⟩

theorem pieces_8 : View.PiecesOf (guOf c fh0) (kernelRun0_A.sl.HS0_8 (F := Ideal) c arg9 fh0 g) :=
  ⟨fun x => congrFun ((pay16_eq _).trans ((pay15_eq _).trans (up_3 c arg9 fh0 g))) x, fun x => congrFun ((pay14_eq _).trans (gate_3 c arg9 fh0 g)) x, pieces_6 c arg9 fh0 g⟩

theorem pieces_10 : View.PiecesOf (guOf c fh0) (kernelRun0_A.sl.HS0_10 (F := Ideal) c arg9 fh0 g) :=
  ⟨fun x => congrFun ((pay19_eq _).trans (up_4 c arg9 fh0 g)) x, fun x => congrFun ((pay18_eq _).trans (gate_4 c arg9 fh0 g)) x, pieces_8 c arg9 fh0 g⟩

theorem pieces_12 : View.PiecesOf (guOf c fh0) (kernelRun0_A.sl.HS0_12 (F := Ideal) c arg9 fh0 g) :=
  ⟨fun x => congrFun ((pay22_eq _).trans (up_5 c arg9 fh0 g)) x, fun x => congrFun ((pay21_eq _).trans (gate_5 c arg9 fh0 g)) x, pieces_10 c arg9 fh0 g⟩

theorem pieces_14 : View.PiecesOf (guOf c fh0) (kernelRun0_A.sl.HS0_14 (F := Ideal) c arg9 fh0 g) :=
  ⟨fun x => congrFun ((pay25_eq _).trans (up_6 c arg9 fh0 g)) x, fun x => congrFun ((pay24_eq _).trans (gate_6 c arg9 fh0 g)) x, pieces_12 c arg9 fh0 g⟩

theorem pieces_16 : View.PiecesOf (guOf c fh0) (kernelRun0_A.sl.HS0_16 (F := Ideal) c arg9 fh0 g) :=
  ⟨fun x => congrFun ((pay28_eq _).trans (up_7 c arg9 fh0 g)) x, fun x => congrFun ((pay27_eq _).trans (gate_7 c arg9 fh0 g)) x, pieces_14 c arg9 fh0 g⟩

theorem pieces_18 : View.PiecesOf (guOf c fh0) (kernelRun0_A.sl.HS0_18 (F := Ideal) c arg9 fh0 g) :=
  ⟨fun x => congrFun ((pay31_eq _).trans (up_8 c arg9 fh0 g)) x, fun x => congrFun ((pay30_eq _).trans (gate_8 c arg9 fh0 g)) x, pieces_16 c arg9 fh0 g⟩

theorem pieces_20 : View.PiecesOf (guOf c fh0) (kernelRun0_A.sl.HS0_20 (F := Ideal) c arg9 fh0 g) :=
  ⟨fun x => congrFun ((pay34_eq _).trans (up_9 c arg9 fh0 g)) x, fun x => congrFun ((pay33_eq _).trans (gate_9 c arg9 fh0 g)) x, pieces_18 c arg9 fh0 g⟩

theorem pieces_22 : View.PiecesOf (guOf c fh0) (kernelRun0_A.sl.HS0_22 (F := Ideal) c arg9 fh0 g) :=
  ⟨fun x => congrFun ((pay39_eq _).trans ((pay38_eq _).trans (up_10 c arg9 fh0 g))) x, fun x => congrFun ((pay37_eq _).trans (gate_10 c arg9 fh0 g)) x, pieces_20 c arg9 fh0 g⟩

theorem gateRead_0 : kernelRun0_A.sl.v65 (F := Ideal) c arg7 arg9 fh0 g
    = fun j => guOf c fh0 ((Rect.unit (s := S1024x5632) ![0, 0] S1024x256.size inb_S1024x5632_S1024x256_0_0).toLoadRect.idx j) :=
  readCov_block (Val := Elt Ideal) (e := .bf16) arg7.view (guOf c fh0) (kernelRun0_A.sl.HS0_2 (F := Ideal) c arg9 fh0 g) (pieces_2 c arg9 fh0 g)
    (Rect.unit (s := S1024x5632) ![0, 0] S1024x256.size inb_S1024x5632_S1024x256_0_0) ⟨_, List.mem_cons_of_mem _ List.mem_cons_self, subset_rfl⟩

theorem upRead_0 : kernelRun0_A.sl.v67 (F := Ideal) c arg7 arg9 fh0 g
    = fun j => guOf c fh0 ((Rect.unit (s := S1024x5632) ![0, 2816] S1024x256.size inb_S1024x5632_S1024x256_0_2816).toLoadRect.idx j) :=
  readCov_block (Val := Elt Ideal) (e := .bf16) arg7.view (guOf c fh0) (kernelRun0_A.sl.HS0_2 (F := Ideal) c arg9 fh0 g) (pieces_2 c arg9 fh0 g)
    (Rect.unit (s := S1024x5632) ![0, 2816] S1024x256.size inb_S1024x5632_S1024x256_0_2816) ⟨_, List.mem_cons_self, subset_rfl⟩

theorem gateRead_1 : kernelRun0_A.sl.v108 (F := Ideal) c arg7 arg9 fh0 g
    = fun j => guOf c fh0 ((Rect.unit (s := S1024x5632) ![0, 256] S1024x256.size inb_S1024x5632_S1024x256_0_256).toLoadRect.idx j) :=
  readCov_block (Val := Elt Ideal) (e := .bf16) arg7.view (guOf c fh0) (kernelRun0_A.sl.HS0_4 (F := Ideal) c arg9 fh0 g) (pieces_4 c arg9 fh0 g)
    (Rect.unit (s := S1024x5632) ![0, 256] S1024x256.size inb_S1024x5632_S1024x256_0_256) ⟨_, List.mem_cons_of_mem _ List.mem_cons_self, subset_rfl⟩

theorem upRead_1 : kernelRun0_A.sl.v110 (F := Ideal) c arg7 arg9 fh0 g
    = fun j => guOf c fh0 ((Rect.unit (s := S1024x5632) ![0, 3072] S1024x256.size inb_S1024x5632_S1024x256_0_3072).toLoadRect.idx j) :=
  readCov_block (Val := Elt Ideal) (e := .bf16) arg7.view (guOf c fh0) (kernelRun0_A.sl.HS0_4 (F := Ideal) c arg9 fh0 g) (pieces_4 c arg9 fh0 g)
    (Rect.unit (s := S1024x5632) ![0, 3072] S1024x256.size inb_S1024x5632_S1024x256_0_3072) ⟨_, List.mem_cons_self, subset_rfl⟩

theorem gateRead_2 : kernelRun0_A.sl.v151 (F := Ideal) c arg7 arg9 fh0 g
    = fun j => guOf c fh0 ((Rect.unit (s := S1024x5632) ![0, 512] S1024x256.size inb_S1024x5632_S1024x256_0_512).toLoadRect.idx j) :=
  readCov_block (Val := Elt Ideal) (e := .bf16) arg7.view (guOf c fh0) (kernelRun0_A.sl.HS0_6 (F := Ideal) c arg9 fh0 g) (pieces_6 c arg9 fh0 g)
    (Rect.unit (s := S1024x5632) ![0, 512] S1024x256.size inb_S1024x5632_S1024x256_0_512) ⟨_, List.mem_cons_of_mem _ List.mem_cons_self, subset_rfl⟩

theorem upRead_2 : kernelRun0_A.sl.v153 (F := Ideal) c arg7 arg9 fh0 g
    = fun j => guOf c fh0 ((Rect.unit (s := S1024x5632) ![0, 3328] S1024x256.size inb_S1024x5632_S1024x256_0_3328).toLoadRect.idx j) :=
  readCov_block (Val := Elt Ideal) (e := .bf16) arg7.view (guOf c fh0) (kernelRun0_A.sl.HS0_6 (F := Ideal) c arg9 fh0 g) (pieces_6 c arg9 fh0 g)
    (Rect.unit (s := S1024x5632) ![0, 3328] S1024x256.size inb_S1024x5632_S1024x256_0_3328) ⟨_, List.mem_cons_self, subset_rfl⟩

theorem gateRead_3 : kernelRun0_A.sl.v194 (F := Ideal) c arg7 arg9 fh0 g
    = fun j => guOf c fh0 ((Rect.unit (s := S1024x5632) ![0, 768] S1024x256.size inb_S1024x5632_S1024x256_0_768).toLoadRect.idx j) :=
  readCov_block (Val := Elt Ideal) (e := .bf16) arg7.view (guOf c fh0) (kernelRun0_A.sl.HS0_8 (F := Ideal) c arg9 fh0 g) (pieces_8 c arg9 fh0 g)
    (Rect.unit (s := S1024x5632) ![0, 768] S1024x256.size inb_S1024x5632_S1024x256_0_768) ⟨_, List.mem_cons_of_mem _ List.mem_cons_self, subset_rfl⟩

theorem upRead_3 : kernelRun0_A.sl.v196 (F := Ideal) c arg7 arg9 fh0 g
    = fun j => guOf c fh0 ((Rect.unit (s := S1024x5632) ![0, 3584] S1024x256.size inb_S1024x5632_S1024x256_0_3584).toLoadRect.idx j) :=
  readCov_block (Val := Elt Ideal) (e := .bf16) arg7.view (guOf c fh0) (kernelRun0_A.sl.HS0_8 (F := Ideal) c arg9 fh0 g) (pieces_8 c arg9 fh0 g)
    (Rect.unit (s := S1024x5632) ![0, 3584] S1024x256.size inb_S1024x5632_S1024x256_0_3584) ⟨_, List.mem_cons_self, subset_rfl⟩

theorem gateRead_4 : kernelRun0_A.sl.v237 (F := Ideal) c arg7 arg9 fh0 g
    = fun j => guOf c fh0 ((Rect.unit (s := S1024x5632) ![0, 1024] S1024x256.size inb_S1024x5632_S1024x256_0_1024).toLoadRect.idx j) :=
  readCov_block (Val := Elt Ideal) (e := .bf16) arg7.view (guOf c fh0) (kernelRun0_A.sl.HS0_10 (F := Ideal) c arg9 fh0 g) (pieces_10 c arg9 fh0 g)
    (Rect.unit (s := S1024x5632) ![0, 1024] S1024x256.size inb_S1024x5632_S1024x256_0_1024) ⟨_, List.mem_cons_of_mem _ List.mem_cons_self, subset_rfl⟩

theorem upRead_4 : kernelRun0_A.sl.v239 (F := Ideal) c arg7 arg9 fh0 g
    = fun j => guOf c fh0 ((Rect.unit (s := S1024x5632) ![0, 3840] S1024x256.size inb_S1024x5632_S1024x256_0_3840).toLoadRect.idx j) :=
  readCov_block (Val := Elt Ideal) (e := .bf16) arg7.view (guOf c fh0) (kernelRun0_A.sl.HS0_10 (F := Ideal) c arg9 fh0 g) (pieces_10 c arg9 fh0 g)
    (Rect.unit (s := S1024x5632) ![0, 3840] S1024x256.size inb_S1024x5632_S1024x256_0_3840) ⟨_, List.mem_cons_self, subset_rfl⟩

theorem gateRead_5 : kernelRun0_A.sl.v280 (F := Ideal) c arg7 arg9 fh0 g
    = fun j => guOf c fh0 ((Rect.unit (s := S1024x5632) ![0, 1280] S1024x256.size inb_S1024x5632_S1024x256_0_1280).toLoadRect.idx j) :=
  readCov_block (Val := Elt Ideal) (e := .bf16) arg7.view (guOf c fh0) (kernelRun0_A.sl.HS0_12 (F := Ideal) c arg9 fh0 g) (pieces_12 c arg9 fh0 g)
    (Rect.unit (s := S1024x5632) ![0, 1280] S1024x256.size inb_S1024x5632_S1024x256_0_1280) ⟨_, List.mem_cons_of_mem _ List.mem_cons_self, subset_rfl⟩

theorem upRead_5 : kernelRun0_A.sl.v282 (F := Ideal) c arg7 arg9 fh0 g
    = fun j => guOf c fh0 ((Rect.unit (s := S1024x5632) ![0, 4096] S1024x256.size inb_S1024x5632_S1024x256_0_4096).toLoadRect.idx j) :=
  readCov_block (Val := Elt Ideal) (e := .bf16) arg7.view (guOf c fh0) (kernelRun0_A.sl.HS0_12 (F := Ideal) c arg9 fh0 g) (pieces_12 c arg9 fh0 g)
    (Rect.unit (s := S1024x5632) ![0, 4096] S1024x256.size inb_S1024x5632_S1024x256_0_4096) ⟨_, List.mem_cons_self, subset_rfl⟩

theorem gateRead_6 : kernelRun0_A.sl.v (F := Ideal) c arg7 arg9 fh0 g
    = fun j => guOf c fh0 ((Rect.unit (s := S1024x5632) ![0, 1536] S1024x256.size inb_S1024x5632_S1024x256_0_1536).toLoadRect.idx j) :=
  readCov_block (Val := Elt Ideal) (e := .bf16) arg7.view (guOf c fh0) (kernelRun0_A.sl.HS0_14 (F := Ideal) c arg9 fh0 g) (pieces_14 c arg9 fh0 g)
    (Rect.unit (s := S1024x5632) ![0, 1536] S1024x256.size inb_S1024x5632_S1024x256_0_1536) ⟨_, List.mem_cons_of_mem _ List.mem_cons_self, subset_rfl⟩

theorem upRead_6 : kernelRun0_A.sl.v325 (F := Ideal) c arg7 arg9 fh0 g
    = fun j => guOf c fh0 ((Rect.unit (s := S1024x5632) ![0, 4352] S1024x256.size inb_S1024x5632_S1024x256_0_4352).toLoadRect.idx j) :=
  readCov_block (Val := Elt Ideal) (e := .bf16) arg7.view (guOf c fh0) (kernelRun0_A.sl.HS0_14 (F := Ideal) c arg9 fh0 g) (pieces_14 c arg9 fh0 g)
    (Rect.unit (s := S1024x5632) ![0, 4352] S1024x256.size inb_S1024x5632_S1024x256_0_4352) ⟨_, List.mem_cons_self, subset_rfl⟩

theorem gateRead_7 : kernelRun0_A.sl.v366 (F := Ideal) c arg7 arg9 fh0 g
    = fun j => guOf c fh0 ((Rect.unit (s := S1024x5632) ![0, 1792] S1024x256.size inb_S1024x5632_S1024x256_0_1792).toLoadRect.idx j) :=
  readCov_block (Val := Elt Ideal) (e := .bf16) arg7.view (guOf c fh0) (kernelRun0_A.sl.HS0_16 (F := Ideal) c arg9 fh0 g) (pieces_16 c arg9 fh0 g)
    (Rect.unit (s := S1024x5632) ![0, 1792] S1024x256.size inb_S1024x5632_S1024x256_0_1792) ⟨_, List.mem_cons_of_mem _ List.mem_cons_self, subset_rfl⟩

theorem upRead_7 : kernelRun0_A.sl.v368 (F := Ideal) c arg7 arg9 fh0 g
    = fun j => guOf c fh0 ((Rect.unit (s := S1024x5632) ![0, 4608] S1024x256.size inb_S1024x5632_S1024x256_0_4608).toLoadRect.idx j) :=
  readCov_block (Val := Elt Ideal) (e := .bf16) arg7.view (guOf c fh0) (kernelRun0_A.sl.HS0_16 (F := Ideal) c arg9 fh0 g) (pieces_16 c arg9 fh0 g)
    (Rect.unit (s := S1024x5632) ![0, 4608] S1024x256.size inb_S1024x5632_S1024x256_0_4608) ⟨_, List.mem_cons_self, subset_rfl⟩

theorem gateRead_8 : kernelRun0_A.sl.v409 (F := Ideal) c arg7 arg9 fh0 g
    = fun j => guOf c fh0 ((Rect.unit (s := S1024x5632) ![0, 2048] S1024x256.size inb_S1024x5632_S1024x256_0_2048).toLoadRect.idx j) :=
  readCov_block (Val := Elt Ideal) (e := .bf16) arg7.view (guOf c fh0) (kernelRun0_A.sl.HS0_18 (F := Ideal) c arg9 fh0 g) (pieces_18 c arg9 fh0 g)
    (Rect.unit (s := S1024x5632) ![0, 2048] S1024x256.size inb_S1024x5632_S1024x256_0_2048) ⟨_, List.mem_cons_of_mem _ List.mem_cons_self, subset_rfl⟩

theorem upRead_8 : kernelRun0_A.sl.v411 (F := Ideal) c arg7 arg9 fh0 g
    = fun j => guOf c fh0 ((Rect.unit (s := S1024x5632) ![0, 4864] S1024x256.size inb_S1024x5632_S1024x256_0_4864).toLoadRect.idx j) :=
  readCov_block (Val := Elt Ideal) (e := .bf16) arg7.view (guOf c fh0) (kernelRun0_A.sl.HS0_18 (F := Ideal) c arg9 fh0 g) (pieces_18 c arg9 fh0 g)
    (Rect.unit (s := S1024x5632) ![0, 4864] S1024x256.size inb_S1024x5632_S1024x256_0_4864) ⟨_, List.mem_cons_self, subset_rfl⟩

theorem gateRead_9 : kernelRun0_A.sl.v452 (F := Ideal) c arg7 arg9 fh0 g
    = fun j => guOf c fh0 ((Rect.unit (s := S1024x5632) ![0, 2304] S1024x256.size inb_S1024x5632_S1024x256_0_2304).toLoadRect.idx j) :=
  readCov_block (Val := Elt Ideal) (e := .bf16) arg7.view (guOf c fh0) (kernelRun0_A.sl.HS0_20 (F := Ideal) c arg9 fh0 g) (pieces_20 c arg9 fh0 g)
    (Rect.unit (s := S1024x5632) ![0, 2304] S1024x256.size inb_S1024x5632_S1024x256_0_2304) ⟨_, List.mem_cons_of_mem _ List.mem_cons_self, subset_rfl⟩

theorem upRead_9 : kernelRun0_A.sl.v454 (F := Ideal) c arg7 arg9 fh0 g
    = fun j => guOf c fh0 ((Rect.unit (s := S1024x5632) ![0, 5120] S1024x256.size inb_S1024x5632_S1024x256_0_5120).toLoadRect.idx j) :=
  readCov_block (Val := Elt Ideal) (e := .bf16) arg7.view (guOf c fh0) (kernelRun0_A.sl.HS0_20 (F := Ideal) c arg9 fh0 g) (pieces_20 c arg9 fh0 g)
    (Rect.unit (s := S1024x5632) ![0, 5120] S1024x256.size inb_S1024x5632_S1024x256_0_5120) ⟨_, List.mem_cons_self, subset_rfl⟩

theorem gateRead_10 : kernelRun0_A.sl.v485 (F := Ideal) c arg7 arg9 fh0 g
    = fun j => guOf c fh0 ((Rect.unit (s := S1024x5632) ![0, 2560] S1024x256.size inb_S1024x5632_S1024x256_0_2560).toLoadRect.idx j) :=
  readCov_block (Val := Elt Ideal) (e := .bf16) arg7.view (guOf c fh0) (kernelRun0_A.sl.HS0_22 (F := Ideal) c arg9 fh0 g) (pieces_22 c arg9 fh0 g)
    (Rect.unit (s := S1024x5632) ![0, 2560] S1024x256.size inb_S1024x5632_S1024x256_0_2560) ⟨_, List.mem_cons_of_mem _ List.mem_cons_self, subset_rfl⟩

theorem upRead_10 : kernelRun0_A.sl.v487 (F := Ideal) c arg7 arg9 fh0 g
    = fun j => guOf c fh0 ((Rect.unit (s := S1024x5632) ![0, 5376] S1024x256.size inb_S1024x5632_S1024x256_0_5376).toLoadRect.idx j) :=
  readCov_block (Val := Elt Ideal) (e := .bf16) arg7.view (guOf c fh0) (kernelRun0_A.sl.HS0_22 (F := Ideal) c arg9 fh0 g) (pieces_22 c arg9 fh0 g)
    (Rect.unit (s := S1024x5632) ![0, 5376] S1024x256.size inb_S1024x5632_S1024x256_0_5376) ⟨_, List.mem_cons_self, subset_rfl⟩

end

end Cert.KernelIdeal.Ffn

end
-- ==== Proof.FirstValue.lean ====
module

public import proofs.«01_k».proof.Proof.FirstStage

@[expose] public section

/-! What the first point leaves in the weights' scratch and in the output's buffer. -/

set_option maxRecDepth 16384

noncomputable section

namespace Cert.KernelIdeal.Ffn

open Cert.KernelIdeal Cert.KernelIdeal.Gen
open Idealize.ShloMosaic Idealize.ShloMosaic.TcCoe

/-! ## The down projection's scratch, stored 176 rows at a time -/

/-- The down projection's matrix on its own columns of the scratch. -/
def downWide (c : Dev nD) (fh1 : HbBuf0 (F := Ideal) c hbM0_1) : S2816x1152.Idx → EReal := fun x =>
  if h : (x 1).val < 1024 then downOf c fh1 (x 0) ⟨(x 1).val, h⟩ else 0

/-- Rows of the staged copy of the operand, stored as they are, are rows of the matrix. -/
theorem rows_block (c : Dev nD) (arg10 : Memref sig .tc .vmem S2816x1024 .f32) (fh1 : HbBuf0 (F := Ideal) c hbM0_1) (o : ℕ)
    (inb : ∀ d, (![o, 0] : Fin 2 → ℕ) d + S176x1024.size d ≤ S2816x1024.size d)
    (inb' : ∀ d, (![o, 0] : Fin 2 → ℕ) d + S176x1024.size d ≤ S2816x1152.size d)
    {w : S176x1024.Idx → EReal}
    (hw : w = arg10.view.readCov (Val := Elt Ideal) [⟨Rect.whole S2816x1024, kernelRun0_A.sl.dma0_2 (F := Ideal) c fh1⟩]
      (Rect.unit (s := S2816x1024) ![o, 0] S176x1024.size inb).toLoadRect) (x : S176x1024.Idx) :
    w x = downWide c fh1 ((Rect.unit (s := S2816x1152) ![o, 0] S176x1024.size inb').emb x) := by
  subst hw
  have h1 : (x 1).val < 1024 := (x 1).isLt
  rw [View.readCov_eq_canon']
  refine (congrFun (canon_eq_of_pieces (Val := Elt Ideal) (e := .f32) (kernelRun0_A.sl.dma0_2 (F := Ideal) c fh1) [⟨Rect.whole S2816x1024, kernelRun0_A.sl.dma0_2 (F := Ideal) c fh1⟩] (fun y => ⟨_, List.mem_cons_self, (Rect.set_whole _).symm ▸ Finset.mem_univ y⟩)
    ⟨fun y => congrArg (kernelRun0_A.sl.dma0_2 (F := Ideal) c fh1) (Rect.emb_whole_apply _ y).symm, trivial⟩) _).trans ?_
  rw [show (Rect.unit (s := S2816x1152) ![o, 0] S176x1024.size inb').emb x = _ from unit_emb inb' x,
    show (Rect.unit (s := S2816x1024) ![o, 0] S176x1024.size inb).toLoadRect.idx x = _ from unit_idx inb x]
  unfold downWide
  have h2 : 0 + (x 1).val < 1024 := by omega
  refine Eq.trans ?_ (dif_pos ?h).symm
  case h => exact h2
  exact congrArg (kernelRun0_A.sl.dma0_2 (F := Ideal) c fh1) (congrArg₂ ix2 rfl rfl)

/-- An index of the matrix's own columns lies in the store of its rows. -/
theorem mem_rows {o : ℕ} (inb : ∀ d, (![o, 0] : Fin 2 → ℕ) d + S176x1024.size d ≤ S2816x1152.size d) (j : Fin 2816) (n : Fin 1024)
    (h : o ≤ j.val) (h' : j.val < o + 176) :
    (ix2 j ⟨n.val, by omega⟩ : S2816x1152.Idx) ∈ (Rect.unit (s := S2816x1152) ![o, 0] S176x1024.size inb).set := by
  have e : (Rect.unit (s := S2816x1152) ![o, 0] S176x1024.size inb).toLoadRect.idx (ix2 (⟨j.val - o, by omega⟩ : Fin 176) n)
      = (ix2 j ⟨n.val, by omega⟩ : S2816x1152.Idx) := by
    refine (unit_idx inb (ix2 (⟨j.val - o, by omega⟩ : Fin 176) n)).trans (congrArg₂ ix2 (Fin.ext ?_) (Fin.ext ?_))
    · simp; omega
    · simp
  rw [← e]
  exact LoadRect.idx_mem _ _

section

variable (c : Dev nD) (i : grid0.Coords) (arg1 : Memref sig .tc .vmem S512x1024 .f32) (harg1 : arg1.IsWhole)
  (arg2 : Memref sig .tc .vmem S1x1024 .f32) (harg2 : arg2.IsWhole) (arg5 : Memref sig .tc .vmem S1x1024 .f32) (harg5 : arg5.IsWhole)
  (arg6 : Memref sig .tc .vmem S512x1024 .f32) (harg6 : arg6.IsWhole) (arg7 : Memref sig .tc .vmem S1024x5632 .bf16) (harg7 : arg7.IsWhole)
  (arg8 : Memref sig .tc .vmem S2816x1152 .bf16) (harg8 : arg8.IsWhole) (arg9 : Memref sig .tc .vmem S2x2x1024x256 .f32) (harg9 : arg9.IsWhole)
  (arg10 : Memref sig .tc .vmem S2816x1024 .f32) (harg10 : arg10.IsWhole) (arg13 : Memref sig .tc .vmem S512x2816 .bf16) (harg13 : arg13.IsWhole)
  (x0 : Vec Ideal S512x1024 .f32) (x1 x2 : Vec Ideal S1x1024 .f32)
  (hc0 : cond0_0 i) (hc1 : ¬cond0_1 i) (fh0 : HbBuf0 (F := Ideal) c hbM0_0) (fh1 : HbBuf0 (F := Ideal) c hbM0_1)
  (g : arg9.view.ty.Contents (Elt Ideal))

/-- Every store into the down projection's scratch is of rows of the matrix. -/
theorem rows_pieces : View.PiecesOf (downWide c fh1) (kernelRun0_A.sl.HS1_16 (F := Ideal) c arg10 fh1) :=
  ⟨fun x => rows_block c arg10 fh1 2640 _ inb_S2816x1152_S176x1024_2640_0 ((pay59_eq _).trans (pay58_eq _)) x,
    fun x => rows_block c arg10 fh1 2464 _ inb_S2816x1152_S176x1024_2464_0 (pay57_eq _) x,
    fun x => rows_block c arg10 fh1 2288 _ inb_S2816x1152_S176x1024_2288_0 (pay56_eq _) x,
    fun x => rows_block c arg10 fh1 2112 _ inb_S2816x1152_S176x1024_2112_0 (pay55_eq _) x,
    fun x => rows_block c arg10 fh1 1936 _ inb_S2816x1152_S176x1024_1936_0 (pay54_eq _) x,
    fun x => rows_block c arg10 fh1 1760 _ inb_S2816x1152_S176x1024_1760_0 (pay53_eq _) x,
    fun x => rows_block c arg10 fh1 1584 _ inb_S2816x1152_S176x1024_1584_0 ((pay52_eq _).trans (pay51_eq _)) x,
    fun x => rows_block c arg10 fh1 1408 _ inb_S2816x1152_S176x1024_1408_0 (pay50_eq _) x,
    fun x => rows_block c arg10 fh1 1232 _ inb_S2816x1152_S176x1024_1232_0 (pay49_eq _) x,
    fun x => rows_block c arg10 fh1 1056 _ inb_S2816x1152_S176x1024_1056_0 (pay48_eq _) x,
    fun x => rows_block c arg10 fh1 880 _ inb_S2816x1152_S176x1024_880_0 (pay47_eq _) x,
    fun x => rows_block c arg10 fh1 704 _ inb_S2816x1152_S176x1024_704_0 (pay46_eq _) x,
    fun x => rows_block c arg10 fh1 528 _ inb_S2816x1152_S176x1024_528_0 ((pay45_eq _).trans (pay44_eq _)) x,
    fun x => rows_block c arg10 fh1 352 _ inb_S2816x1152_S176x1024_352_0 (pay43_eq _) x,
    fun x => rows_block c arg10 fh1 176 _ inb_S2816x1152_S176x1024_176_0 (pay42_eq _) x,
    fun x => rows_block c arg10 fh1 0 _ inb_S2816x1152_S176x1024_0_0 (pay41_eq _) x, trivial⟩

/-- The stores cover the matrix's columns. -/
theorem rows_cover (j : Fin 2816) (n : Fin 1024) :
    ∃ p ∈ kernelRun0_A.sl.HS1_16 (F := Ideal) c arg10 fh1, (ix2 j ⟨n.val, by omega⟩ : S2816x1152.Idx) ∈ p.1.set := by
  unfold kernelRun0_A.sl.HS1_16
  by_cases h15 : 2640 ≤ j.val
  · exact ⟨_, List.mem_cons_self, mem_rows inb_S2816x1152_S176x1024_2640_0 j n h15 (by omega)⟩
  by_cases h14 : 2464 ≤ j.val
  · exact ⟨_, List.mem_cons_of_mem _ (List.mem_cons_self), mem_rows inb_S2816x1152_S176x1024_2464_0 j n h14 (by omega)⟩
  by_cases h13 : 2288 ≤ j.val
  · exact ⟨_, List.mem_cons_of_mem _ (List.mem_cons_of_mem _ (List.mem_cons_self)), mem_rows inb_S2816x1152_S176x1024_2288_0 j n h13 (by omega)⟩
  by_cases h12 : 2112 ≤ j.val
  · exact ⟨_, List.mem_cons_of_mem _ (List.mem_cons_of_mem _ (List.mem_cons_of_mem _ (List.mem_cons_self))), mem_rows inb_S2816x1152_S176x1024_2112_0 j n h12 (by omega)⟩
  by_cases h11 : 1936 ≤ j.val
  · exact ⟨_, List.mem_cons_of_mem _ (List.mem_cons_of_mem _ (List.mem_cons_of_mem _ (List.mem_cons_of_mem _ (List.mem_cons_self)))), mem_rows inb_S2816x1152_S176x1024_1936_0 j n h11 (by omega)⟩
  by_cases h10 : 1760 ≤ j.val
  · exact ⟨_, List.mem_cons_of_mem _ (List.mem_cons_of_mem _ (List.mem_cons_of_mem _ (List.mem_cons_of_mem _ (List.mem_cons_of_mem _ (List.mem_cons_self))))), mem_rows inb_S2816x1152_S176x1024_1760_0 j n h10 (by omega)⟩
  by_cases h9 : 1584 ≤ j.val
  · exact ⟨_, List.mem_cons_of_mem _ (List.mem_cons_of_mem _ (List.mem_cons_of_mem _ (List.mem_cons_of_mem _ (List.mem_cons_of_mem _ (List.mem_cons_of_mem _ (List.mem_cons_self)))))), mem_rows inb_S2816x1152_S176x1024_1584_0 j n h9 (by omega)⟩
  by_cases h8 : 1408 ≤ j.val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_rows inb_S2816x1152_S176x1024_1408_0 j n h8 (by omega)⟩
  by_cases h7 : 1232 ≤ j.val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_rows inb_S2816x1152_S176x1024_1232_0 j n h7 (by omega)⟩
  by_cases h6 : 1056 ≤ j.val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_rows inb_S2816x1152_S176x1024_1056_0 j n h6 (by omega)⟩
  by_cases h5 : 880 ≤ j.val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_rows inb_S2816x1152_S176x1024_880_0 j n h5 (by omega)⟩
  by_cases h4 : 704 ≤ j.val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_rows inb_S2816x1152_S176x1024_704_0 j n h4 (by omega)⟩
  by_cases h3 : 528 ≤ j.val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_rows inb_S2816x1152_S176x1024_528_0 j n h3 (by omega)⟩
  by_cases h2 : 352 ≤ j.val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_rows inb_S2816x1152_S176x1024_352_0 j n h2 (by omega)⟩
  by_cases h1 : 176 ≤ j.val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_rows inb_S2816x1152_S176x1024_176_0 j n h1 (by omega)⟩
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_rows inb_S2816x1152_S176x1024_0_0 j n (Nat.zero_le _) (by omega)⟩

/-- What the stores leave on the matrix's columns. -/
theorem rows_canon : downCols (View.canon (kernelRun0_A.sl.HS1_16 (F := Ideal) c arg10 fh1)) = downOf c fh1 := by
  funext j n
  unfold downCols
  refine (congrFun (congrArg View.canon (List.append_nil (kernelRun0_A.sl.HS1_16 (F := Ideal) c arg10 fh1)).symm) _).trans
    ((View.canon_append_of_piecesOf (Val := Elt Ideal) (e := .bf16) (downWide c fh1) [] _ (rows_pieces c arg10 fh1) _ (rows_cover c arg10 fh1 j n)).trans ?_)
  unfold downWide
  rw [dif_pos (show ((ix2 j (⟨n.val, by omega⟩ : Fin 1152) : S2816x1152.Idx) 1).val < 1024 from n.isLt)]
  rfl

/-- The normalized rows the point computes. -/
theorem first_normed : kernelRun0_A.sl.r (F := Ideal) c arg1 harg1 arg2 harg2 x0 x1 = normedTile x0 x1 := by
  unfold kernelRun0_A.sl.r
  rw [load_held, load_held, pay3_eq]
  exact congrArg₂ normedTile (funext fun j => congrArg x0 (unit_idx_whole _ j)) (funext fun j => congrArg x1 (unit_idx_whole _ j))

/-- The hidden scratch the point fills, read back whole. -/
theorem first_hidden :
    kernelRun0_A.sl.v578 (F := Ideal) c arg1 harg1 arg2 harg2 arg7 arg9 arg13 x0 x1 fh0 g = hiddenTile (normedTile x0 x1) (guOf c fh0) := by
  unfold kernelRun0_A.sl.v578
  refine (readCov_whole _ _ _).trans (canon_eq_of_pieces _ _ (View.cover_of_tiledL _ S512x256.size (by sl_kernel_rfl)) ?_)
  unfold kernelRun0_A.sl.HS4_11 kernelRun0_A.sl.r_1 kernelRun0_A.sl.r_3 kernelRun0_A.sl.r_4 kernelRun0_A.sl.cst_455
  have en := first_normed c arg1 harg1 arg2 harg2 x0 x1
  refine ⟨fun x => ?_, fun x => ?_, fun x => ?_, fun x => ?_, fun x => ?_, fun x => ?_, fun x => ?_, fun x => ?_, fun x => ?_, fun x => ?_, fun x => ?_, trivial⟩ <;>
    simp only [en, gateRead_0, upRead_0, gateRead_1, upRead_1, gateRead_2, upRead_2, gateRead_3, upRead_3, gateRead_4, upRead_4, gateRead_5, upRead_5, gateRead_6, upRead_6, gateRead_7, upRead_7, gateRead_8, upRead_8, gateRead_9, upRead_9, gateRead_10, upRead_10, pay6_eq, pay9_eq, pay10_eq, pay13_eq, pay17_eq, pay20_eq, pay23_eq, pay26_eq, pay29_eq, pay32_eq, pay36_eq, pay40_eq] <;>
    exact gatedTile_block (normedTile x0 x1) (guOf c fh0) (by norm_num) _ _ _ x

/-- The gate and up projections' scratch ends at the operand. -/
theorem first_gu (f : arg7.view.ty.Contents (Elt Ideal)) :
    arg7.view.read (Elt Ideal) (arg7.view.writes (Elt Ideal) f ((kernelRun0_A (F := Ideal) c i arg1 harg1 arg2 harg2 arg5 harg5 arg6 harg6 arg7 harg7 arg8 harg8 arg9 harg9 arg10 harg10
        arg13 harg13 hc0 hc1 x0 x1 x2 fh0 fh1).1.1 g)) = guOf c fh0 :=
  read_of_canon (Val := Elt Ideal) (e := .bf16) arg7.view f (kernelRun0_A.sl.HS0_22 (F := Ideal) c arg9 fh0 g) (guOf c fh0)
    (View.cover_of_tiledL (kernelRun0_A.sl.HS0_22 (F := Ideal) c arg9 fh0 g) S1024x256.size (by sl_kernel_rfl))
    (canon_eq_of_pieces (Val := Elt Ideal) (e := .bf16) (guOf c fh0) (kernelRun0_A.sl.HS0_22 (F := Ideal) c arg9 fh0 g) (View.cover_of_tiledL (kernelRun0_A.sl.HS0_22 (F := Ideal) c arg9 fh0 g) S1024x256.size (by sl_kernel_rfl)) (pieces_22 c arg9 fh0 g))

/-- The down projection's scratch ends at the operand, on its columns. -/
theorem first_down (f : arg8.view.ty.Contents (Elt Ideal)) :
    downCols (arg8.view.read (Elt Ideal) (arg8.view.writes (Elt Ideal) f (kernelRun0_A (F := Ideal) c i arg1 harg1 arg2 harg2 arg5 harg5 arg6 harg6 arg7 harg7 arg8 harg8 arg9 harg9 arg10 harg10
        arg13 harg13 hc0 hc1 x0 x1 x2 fh0 fh1).1.2.1)) = downOf c fh1 := by
  have e : (kernelRun0_A (F := Ideal) c i arg1 harg1 arg2 harg2 arg5 harg5 arg6 harg6 arg7 harg7 arg8 harg8 arg9 harg9 arg10 harg10
        arg13 harg13 hc0 hc1 x0 x1 x2 fh0 fh1).1.2.1 = kernelRun0_A.sl.HS1_16 (F := Ideal) c arg10 fh1 := rfl
  rw [e]
  refine Eq.trans ?_ (rows_canon c arg10 fh1)
  funext j n
  unfold downCols
  exact View.read_writes_apply_eq_canon (Val := Elt Ideal) arg8.view f (ix2 j ⟨n.val, by omega⟩) (kernelRun0_A.sl.HS1_16 (F := Ideal) c arg10 fh1) (rows_cover c arg10 fh1 j n)

theorem first_cover (y : S512x1024.Idx) :
    ∃ p ∈ (kernelRun0_A (F := Ideal) c i arg1 harg1 arg2 harg2 arg5 harg5 arg6 harg6 arg7 harg7 arg8 harg8 arg9 harg9 arg10 harg10
        arg13 harg13 hc0 hc1 x0 x1 x2 fh0 fh1).1.2.2 g, y ∈ p.1.set :=
  View.cover_of_tiledL ((kernelRun0_A (F := Ideal) c i arg1 harg1 arg2 harg2 arg5 harg5 arg6 harg6 arg7 harg7 arg8 harg8 arg9 harg9 arg10 harg10
        arg13 harg13 hc0 hc1 x0 x1 x2 fh0 fh1).1.2.2 g) S512x512.size (by sl_kernel_rfl) y

theorem first_canon :
    View.canon ((kernelRun0_A (F := Ideal) c i arg1 harg1 arg2 harg2 arg5 harg5 arg6 harg6 arg7 harg7 arg8 harg8 arg9 harg9 arg10 harg10
        arg13 harg13 hc0 hc1 x0 x1 x2 fh0 fh1).1.2.2 g)
      = outTile x0 (hiddenTile (normedTile x0 x1) (guOf c fh0)) (downOf c fh1) x2 := by
  have hh := first_hidden c arg1 harg1 arg2 harg2 arg7 arg9 arg13 x0 x1 fh0 g
  have hd := rows_canon c arg10 fh1
  refine canon_eq_of_pieces _ _ (first_cover c i arg1 harg1 arg2 harg2 arg5 harg5 arg6 harg6 arg7 harg7 arg8 harg8 arg9 harg9 arg10 harg10
        arg13 harg13 x0 x1 x2 hc0 hc1 fh0 fh1 g) ?_
  rw [← hd]
  unfold kernelRun0_A
  refine ⟨fun x => ?_, fun x => ?_, trivial⟩
  · unfold kernelRun0_A.sl.r_9 kernelRun0_A.sl.r_10 kernelRun0_A.sl.v579 kernelRun0_A.sl.v582
    simp only [load_held, hh, View.readCov_eq_canon', pay1_eq]
    exact halfOut_block x0 _ (downCols _) x2 (by norm_num) _ _ _ _ (fun r k => halfTile_block _ _ _ r k (by omega)) (halves_scale _ _ _ _) x
  · unfold kernelRun0_A.sl.v579 kernelRun0_A.sl.v582
    simp only [load_held, hh, View.readCov_eq_canon', pay63_eq]
    exact halfOut_block x0 _ (downCols _) x2 (by norm_num) _ _ _ _ (fun r k => halfTile_block _ _ _ r k (by omega)) (halves_scale _ _ _ _) x

/-- The first point's output. -/
theorem first_out (f : arg6.view.ty.Contents (Elt Ideal)) :
    arg6.view.read (Elt Ideal) (arg6.view.writes (Elt Ideal) f ((kernelRun0_A (F := Ideal) c i arg1 harg1 arg2 harg2 arg5 harg5 arg6 harg6 arg7 harg7 arg8 harg8 arg9 harg9 arg10 harg10
        arg13 harg13 hc0 hc1 x0 x1 x2 fh0 fh1).1.2.2 g))
      = outTile x0 (hiddenTile (normedTile x0 x1) (guOf c fh0)) (downOf c fh1) x2 :=
  read_of_canon arg6.view f ((kernelRun0_A (F := Ideal) c i arg1 harg1 arg2 harg2 arg5 harg5 arg6 harg6 arg7 harg7 arg8 harg8 arg9 harg9 arg10 harg10
        arg13 harg13 hc0 hc1 x0 x1 x2 fh0 fh1).1.2.2 g) _
    (first_cover c i arg1 harg1 arg2 harg2 arg5 harg5 arg6 harg6 arg7 harg7 arg8 harg8 arg9 harg9 arg10 harg10
        arg13 harg13 x0 x1 x2 hc0 hc1 fh0 fh1 g)
    (first_canon c i arg1 harg1 arg2 harg2 arg5 harg5 arg6 harg6 arg7 harg7 arg8 harg8 arg9 harg9 arg10 harg10
        arg13 harg13 x0 x1 x2 hc0 hc1 fh0 fh1 g)

end

end Cert.KernelIdeal.Ffn

end
-- ==== Proof.Body.lean ====
module

public import proofs.«01_k».proof.Proof.FirstValue
public import Idealize.ShloMosaic.Lib.Claim

@[expose] public section

/-! The kernel's launch, with the output's contents named: what each point leaves, and the array at the end. -/

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- What the kernel leaves in tile `t` of its result. -/
def tileOf (c : Dev nD) (t : Fin cfg0.N) : S512x1024.Idx → EReal :=
  outTile (iblk m c 0 t) (hiddenTile (normedTile (iblk m c 0 t) (iblk m c 1 t)) (guOf c (V m c main_arg2))) (downOf c (V m c main_arg3)) (iblk m c 2 t)

/-- The scratch between points: the weights' buffers at the weights (the second on its own columns), the others at anything. -/
def staged (c : Dev nD) : sProp 𝕄 :=
  iprop(iprop(owns (c : Thread nD τ) scM0_0 fullShare (guOf c (V m c main_arg2)) ∗ (∃ d, ⌜downCols d = downOf c (V m c main_arg3)⌝ ∗ owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg2) ∗ hbPt0 c hbM0_1 (V m c main_arg3)))

/-- The invariant before point `n`: the launch's before the first, the weights in place after it. -/
def PhiS (c : Dev nD) : ℕ → sProp 𝕄
  | 0 => Pipeline.ΦD osem0 spec0 H0 (V m) c
  | _ + 1 => staged m c

theorem PhiS_pos (c : Dev nD) (n : ℕ) (hz : n ≠ 0) : PhiS m c n = staged m c := by
  cases n with
  | zero => exact absurd rfl hz
  | succ n => rfl

/-- The proof data: the arrays as launched, each input's buffer at its block, the output's at the tile. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOf m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tileOf m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The output's window is never idle: one of the two conditions holds at every point. -/
theorem liveAt0_3 : ∀ t : Fin cfg0.N, cfg0.idle 3 (grid0.coords t) = false :=
  (by decide +kernel : ∀ t : Fin grid0.N, idle0 3 (grid0.coords t) = false)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 6400000 in
/-- The body at any point, by the two cases' runs. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = staged m c from rfl, show (dats m 0 c).Φ t.castSucc = PhiS m c t.val from rfl]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases hz : t.val = 0
  · have h0 : t.val % 32 = 0 := by omega
    have h1 : ¬1 ≤ t.val := by omega
    rw [hz, show PhiS m c 0 = Pipeline.ΦD osem0 spec0 H0 (V m) c from rfl, PhiD0_eq]
    unfold staged
    · · iintro ⟨⟨⟨HS0, HS1, HS2, HS3, HS4⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩⟩
        iapply ((kernelRun0_A (F := Ideal) c (grid0.coords t) _ _ _ _ _ _ _ _ _ _ _ _ _ _ _ _ _ _ ((hcond0_0 t).mpr h0) (fun h => h1 ((hcond0_1 t).mp h)) (iblk m c 0 t) (iblk m c 1 t) (iblk m c 2 t) (V m c main_arg2) (V m c main_arg3)).2 W _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hq4]; · iexact Hq4
        isplitl [Hh0]; · iexact Hh0
        isplitl [Hh1]; · iexact Hh1
        isplitl [HW]; · iexact HW
        iintro ⟨H0, H1, H2, ⟨%e3, %g3, H3⟩, ⟨%es0, %g0, HS0⟩, ⟨%es1, HS1⟩, HS2, HS3, HS4, Hq0, Hq1, Hq2, Hq3, Hq4, Hh0, Hh1, ⟨%W', HW'⟩⟩
        isplitl [HS0 HS1 HS2 HS3 HS4 Hg Hq0 Hq1 Hq2 Hq3 Hq4 Hh0 Hh1]
        · isplitl [HS0 HS1 HS2 HS3 HS4]
          · isplitl [HS0]
            · unfold owns; iexists _; isplitr
              swap; · iexact HS0
              ipureintro; exact first_gu c _ _ _ _ _ _ _ _ _ _ _ _ _ _ _ _ _ _ _ _ _ _ _ _ _ _ _ _
            isplitl [HS1]
            · unfold owns; iexists _; isplitr
              swap
              · iexists _; isplitr
                swap; · iexact HS1
                ipureintro; rfl
              ipureintro; exact first_down c _ _ _ _ _ _ _ _ _ _ _ _ _ _ _ _ _ _ _ _ _ _ _ _ _ _ _
            isplitl [HS2]; · iexact HS2
            isplitl [HS3]; · iexact HS3
            iexact HS4
          isplitl [Hg]
          · iexact Hg
          isplitl [Hq0 Hq1 Hq2 Hq3 Hq4]
          · isplitl [Hq0]; · iexact Hq0
            isplitl [Hq1]; · iexact Hq1
            isplitl [Hq2]; · iexact Hq2
            isplitl [Hq3]; · iexact Hq3
            iexact Hq4
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        unfold owns; iexists _; isplitr
        swap; · iexact H3
        ipureintro; exact first_out c _ _ _ _ _ _ _ _ _ _ _ _ _ _ _ _ _ _ _ _ _ _ _ _ _ _ _ _
  · have h0 : ¬t.val % 32 = 0 := by omega
    have h1 : 1 ≤ t.val := by omega
    rw [PhiS_pos m c _ hz]
    unfold staged
    · · iintro ⟨⟨⟨HS0, ⟨%ds1, %hd, HS1⟩, HS2, HS3, HS4⟩, Hg, ⟨Hq0, Hq1, Hq2, Hq3, Hq4⟩, ⟨Hh0, Hh1⟩⟩, ⟨%W, -, HW⟩, ⟨%d0, H0⟩, ⟨%d1, H1⟩, ⟨%d2, H2⟩, ⟨%d3, H3⟩⟩
        iapply ((kernelRun0_B (F := Ideal) c (grid0.coords t) _ _ _ _ _ _ _ _ _ _ _ _ _ _ _ _ _ _ (fun h => h0 ((hcond0_0 t).mp h)) ((hcond0_1 t).mpr h1) (iblk m c 0 t) (iblk m c 1 t) (iblk m c 2 t) (guOf c (V m c main_arg2)) ds1 (V m c main_arg2) (V m c main_arg3)).2 W _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        isplitl [HS4]; · iexact HS4
        isplitl [Hq0]; · iexact Hq0
        isplitl [Hq1]; · iexact Hq1
        isplitl [Hq2]; · iexact Hq2
        isplitl [Hq3]; · iexact Hq3
        isplitl [Hq4]; · iexact Hq4
        isplitl [Hh0]; · iexact Hh0
        isplitl [Hh1]; · iexact Hh1
        isplitl [HW]; · iexact HW
        iintro ⟨H0, H1, H2, ⟨%e3, H3⟩, HS0, HS1, HS2, HS3, HS4, Hq0, Hq1, Hq2, Hq3, Hq4, Hh0, Hh1, ⟨%W', HW'⟩⟩
        isplitl [HS0 HS1 HS2 HS3 HS4 Hg Hq0 Hq1 Hq2 Hq3 Hq4 Hh0 Hh1]
        · isplitl [HS0 HS1 HS2 HS3 HS4]
          · isplitl [HS0]; · iexact HS0
            isplitl [HS1]
            · iexists ds1; isplitr; · ipureintro; exact hd
              iexact HS1
            isplitl [HS2]; · iexact HS2
            isplitl [HS3]; · iexact HS3
            iexact HS4
          isplitl [Hg]
          · iexact Hg
          isplitl [Hq0 Hq1 Hq2 Hq3 Hq4]
          · isplitl [Hq0]; · iexact Hq0
            isplitl [Hq1]; · iexact Hq1
            isplitl [Hq2]; · iexact Hq2
            isplitl [Hq3]; · iexact Hq3
            iexact Hq4
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        unfold owns; iexists _; isplitr
        swap; · iexact H3
        ipureintro
        exact (later_read c _ _ _ _ _ _ _ _ _ _ _ _ _ _ _ _ _ _ _ _ _ _ _ _ _ _ _ _ _).trans (congrArg (fun v => outTile (iblk m c 0 t) (hiddenTile (normedTile (iblk m c 0 t) (iblk m c 1 t)) (guOf c (V m c main_arg2))) v (iblk m c 2 t)) hd)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = Pipeline.ΦD osem0 spec0 H0 (V m) c from rfl]

/-- After the last point the weights' named contents are forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl, PhiS_pos m c _ (by have : cfg0.N = 32 := N_0; omega), PhiD0_eq]
  unfold staged
  iintro ⟨⟨HS0, ⟨%ds1, -, HS1⟩, HS2, HS3, HS4⟩, Hg, ⟨Hq0, Hq1, Hq2, Hq3, Hq4⟩, ⟨Hh0, Hh1⟩⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexact HS4
  isplitl [Hg]; · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  isplitl [Hh0]; · iexact Hh0
  iexact Hh1

set_option backward.isDefEq.respectTransparency.types false in
/-- The launch: every array of the pipeline at what the proof data says, every semaphore counter at zero. -/
theorem run_main : θ_run defs (onTc (τ := τ) (main (F := Ideal))) (s₀ m ρ) (fun r => Pipeline.FramePost cfgs (dats m) (0 : Fin 1) (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Ffn

end
-- ==== Proof.Result.lean ====
module

public import proofs.«01_k».proof.Proof.Body

@[expose] public section

/-! The kernel's result array: the half-step on each row (`Cert.Row.out`). -/

set_option maxRecDepth 16384

noncomputable section

namespace Cert.KernelIdeal.Ffn

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg)

/-- Row `r` of tile `t`, in the array. -/
def tileRow (t : Fin cfg0.N) (r : Fin 512) : Fin 16384 :=
  ⟨512 * t.val + r.val, by have : t.val < 32 := lt_of_lt_of_eq t.isLt N_0; omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel

/-- The first window's block at point `t` is the rows of tile `t`. -/
theorem iblk0_apply (c : Dev nD) (t : Fin cfg0.N) (r : Fin 512) (k : Fin 1024) :
    iblk m c 0 t (ix2 r k) = m ((c.tc : Thread nD τ).loc main_arg0) (ix2 (tileRow t r) k) := by
  have hi := index0 t
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

/-- The second window's block is its whole array, -/
theorem iblk1_apply (c : Dev nD) (t : Fin cfg0.N) (k : Fin 1024) :
    iblk m c 1 t (ix2 0 k) = m ((c.tc : Thread nD τ).loc main_arg1) (ix2 0 k) := by
  have hi := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

/-- and the third's. -/
theorem iblk2_apply (c : Dev nD) (t : Fin cfg0.N) (k : Fin 1024) :
    iblk m c 2 t (ix2 0 k) = m ((c.tc : Thread nD τ).loc main_arg4) (ix2 0 k) := by
  have hi := index2 t
  unfold iblk
  rw [View.read_apply]
  show V m c main_arg4 _ = m (c.tc.loc main_arg4) _
  unfold V
  congr 1
  funext a
  apply Fin.ext
  match a with
  | ⟨0, _⟩ => show win0_2.index t 0 * 1 + 1 * 0 = 0; rw [hi.1]
  | ⟨1, _⟩ => show win0_2.index t 1 * 1024 + 1 * k.val = k.val; rw [hi.2]; omega

/-- The half-step on row `r` of the arrays, at column `n`. -/
def resultAt (c : Dev nD) (r : Fin 16384) (n : Fin 1024) : EReal :=
  Row.out (fun k => m ((c.tc : Thread nD τ).loc main_arg0) (ix2 r k)) (fun k => m ((c.tc : Thread nD τ).loc main_arg1) (ix2 0 k))
    (fun k j => m ((c.tc : Thread nD τ).loc main_arg2) (ix2 k j)) (fun j n => m ((c.tc : Thread nD τ).loc main_arg3) (ix2 j n))
    (fun k => m ((c.tc : Thread nD τ).loc main_arg4) (ix2 0 k)) n

/-- The result array. -/
def result (c : Dev nD) : Buf (Elt Ideal) ((c.tc : Thread nD τ).loc main_v0) := fun i => resultAt m c (i 0) (i 1)

theorem guOf_apply (c : Dev nD) (k : Fin 1024) (j : Fin 5632) :
    guOf c (V m c main_arg2) (ix2 k j) = m ((c.tc : Thread nD τ).loc main_arg2) (ix2 k j) := rfl

theorem downOf_apply (c : Dev nD) (j : Fin 2816) (n : Fin 1024) :
    downOf c (V m c main_arg3) j n = m ((c.tc : Thread nD τ).loc main_arg3) (ix2 j n) := rfl

/-- Tile `t` is the result's rows. -/
theorem tileOf_apply (c : Dev nD) (t : Fin cfg0.N) (r : Fin 512) (n : Fin 1024) :
    tileOf m c t (ix2 r n) = resultAt m c (tileRow t r) n := by
  have h0 : (fun k => iblk m c 0 t (ix2 r k)) = fun k => m ((c.tc : Thread nD τ).loc main_arg0) (ix2 (tileRow t r) k) :=
    funext (iblk0_apply m c t r)
  have h1 : (fun k => iblk m c 1 t (ix2 0 k)) = fun k => m ((c.tc : Thread nD τ).loc main_arg1) (ix2 0 k) := funext (iblk1_apply m c t)
  have h2 : (fun k => iblk m c 2 t (ix2 0 k)) = fun k => m ((c.tc : Thread nD τ).loc main_arg4) (ix2 0 k) := funext (iblk2_apply m c t)
  unfold resultAt
  rw [← h0, ← h1, ← h2]
  rfl

/-- Each write-back writes the result's tile. -/
theorem flushed_eq (c : Dev nD) (t : Fin cfg0.N) (hf : (cfg0.win 3).flush t = true) :
    (dats m 0 c).flushed 3 t = ((cfg0.win 3).blk t).view.read (Elt Ideal) (result m c) := by
  show (cfg0.win 3).cut (grid0.coords t) ((dats m 0 c).after 3 t) = _
  rw [after0_3]
  have hi := index3 t
  funext y
  rw [View.read_apply]
  show tileOf m c t y = result m c _
  idx_vars y
  rw [tileOf_apply]
  show resultAt m c _ _ = resultAt m c _ _
  congr 1 <;> apply Fin.ext
  · show 512 * t.val + y0.val = win0_3.index t 0 * 512 + 1 * y0.val; rw [hi.1]; omega
  · show y1.val = win0_3.index t 1 * 1024 + 1 * y1.val; rw [hi.2]; omega

/-- The result array at the end. -/
theorem final (c : Dev nD) : (dats m 0 c).arrAt 3 cfg0.N = result m c :=
  (dats m 0 c).arrAt_eq_of_cover 3 (result m c) (flushed_eq m c) fun i => by
    have h0 : (i 0 : Nat) < 16384 := (i 0).isLt
    have h1 : (i 1 : Nat) < 1024 := (i 1).isLt
    obtain ⟨t, ht⟩ : ∃ t : Fin cfg0.N, t.val = (i 0 : Nat) / 512 :=
      ⟨⟨(i 0 : Nat) / 512, lt_of_lt_of_eq (by omega : (i 0 : Nat) / 512 < 32) N_0.symm⟩, rfl⟩
    refine ⟨t, flush0_3 t, ?_⟩
    have hi := index3 t
    show i ∈ ((View.whole main_v0).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [hi.1, ht]; omega
    | ⟨1, _⟩ =>
      show win0_3.index t 1 * 1024 ≤ (i 1 : Nat) ∧ (i 1 : Nat) < win0_3.index t 1 * 1024 + 1024
      rw [hi.2]; omega

/-- The run: the result array at the half-step on each row, the arguments unchanged, every semaphore counter at zero. -/
theorem run : θ_run defs (onTc (τ := τ) (main (F := Ideal))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 3).trans (final m c),
      ((h.1 c).1 0).trans ((dats m 0 c).arrAt_in 0 rfl _), ((h.1 c).1 1).trans ((dats m 0 c).arrAt_in 1 rfl _),
      (h.1 c).2 main_arg2 (Pipeline.mem_restRefs_of main_arg2 (by decide) (by decide)),
      (h.1 c).2 main_arg3 (Pipeline.mem_restRefs_of main_arg3 (by decide) (by decide)),
      ((h.1 c).1 2).trans ((dats m 0 c).arrAt_in 2 rfl _)⟩, h.2⟩)
    (run_main m ρ)

end Cert.KernelIdeal.Ffn

end
-- ==== Proof.Reference.lean ====
module

public import proofs.«01_k».proof.Proof.Gen.ReferenceIdeal.Run
public import proofs.«01_k».proof.Proof.Rows
public import Idealize.ShloMosaic.Lib.Pointwise

@[expose] public section

/-! The reference's result at an index: the half-step on the index's row (`Cert.Row.out`). -/

set_option maxRecDepth 16384

noncomputable section

namespace Cert.ReferenceIdeal.Ffn

open Cert.ReferenceIdeal Cert.ReferenceIdeal.Gen
open Idealize.ShloMosaic Idealize.ShloMosaic.TcCoe

/-- The normalized rows, weighted, as the reference computes them. -/
def normedRows (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)

/-- The first projection. -/
def projRows (y : FVec Ideal S16384x1024 .f32) (w : FVec Ideal S1024x5632 .f32) : FVec Ideal S16384x5632 .f32 :=
  Host.dotGeneral dot_S16384x1024_S1024x5632_S16384x5632_1_0_0_1_n_n none y w

/-- The gated activations. -/
def hiddenRows (p : FVec Ideal S16384x5632 .f32) : FVec Ideal S16384x2816 .f32 :=
  mulf (mulf (extractStridedSlice S16384x2816 ![0, 0] p slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] p slices_S16384x5632_S16384x2816_0_0)))))) (extractStridedSlice S16384x2816 ![0, 2816] p slices_S16384x5632_S16384x2816_0_2816)

/-- The second projection. -/
def feedRows (a : FVec Ideal S16384x2816 .f32) (v : FVec Ideal S2816x1024 .f32) : FVec Ideal S16384x1024 .f32 :=
  Host.dotGeneral dot_S16384x2816_S2816x1024_S16384x1024_1_0_0_1_n_n none a v

/-- The residual update. -/
def updateRows (x y : FVec Ideal S16384x1024 .f32) : FVec Ideal S16384x1024 .f32 :=
  addf x (mulf (broadcastInDim S16384x1024 ![] bcast_S_S16384x1024 (constant S_ .f32 0x3F000000#32)) y)

/-- Row `r` of a matrix of 1024 columns. -/
def row {a : ℕ} (x : (⟨2, ![a, 1024]⟩ : Shape).Idx → EReal) (r : Fin a) : Fin 1024 → EReal := fun k => x (ix2 r k)

theorem normedRows_apply (x : FVec Ideal S16384x1024 .f32) (g : FVec Ideal S1x1024 .f32) (r : Fin 16384) (k : Fin 1024) :
    normedRows x g (ix2 r k) = Row.normed (row x r) (row g 0) k := by
  pointwise [normedRows]; rfl

theorem projRows_apply (y : FVec Ideal S16384x1024 .f32) (w : FVec Ideal S1024x5632 .f32) (r : Fin 16384) (j : Fin 5632) :
    projRows y w (ix2 r j) = Row.proj (row y r) (fun k j => w (ix2 k j)) j := by
  pointwise [projRows]; rfl

theorem hiddenRows_apply (p : FVec Ideal S16384x5632 .f32) (r : Fin 16384) (j : Fin 2816) :
    hiddenRows p (ix2 r j) = Row.gated (p (ix2 r (Row.gateCol j))) (p (ix2 r (Row.upCol j))) := by
  pointwise [hiddenRows]; rfl

theorem feedRows_apply (a : FVec Ideal S16384x2816 .f32) (v : FVec Ideal S2816x1024 .f32) (r : Fin 16384) (n : Fin 1024) :
    feedRows a v (ix2 r n) = Row.down (fun j => a (ix2 r j)) (fun j n => v (ix2 j n)) n := by
  pointwise [feedRows]; rfl

theorem updateRows_apply (x y : FVec Ideal S16384x1024 .f32) (r : Fin 16384) (n : Fin 1024) :
    updateRows x y (ix2 r n) = x (ix2 r n) + Ideal.ofBits .f32 0x3F000000#32 * y (ix2 r n) := by
  pointwise [updateRows]

/-- The stages in order. -/
def outRows (x : FVec Ideal S16384x1024 .f32) (g : FVec Ideal S1x1024 .f32) (w : FVec Ideal S1024x5632 .f32) (v : FVec Ideal S2816x1024 .f32)
    (q : FVec Ideal S1x1024 .f32) : FVec Ideal S16384x1024 .f32 :=
  updateRows x (normedRows (feedRows (hiddenRows (projRows (normedRows x g) w)) v) q)

theorem outRows_apply (x : FVec Ideal S16384x1024 .f32) (g : FVec Ideal S1x1024 .f32) (w : FVec Ideal S1024x5632 .f32) (v : FVec Ideal S2816x1024 .f32)
    (q : FVec Ideal S1x1024 .f32) (r : Fin 16384) (n : Fin 1024) :
    outRows x g w v q (ix2 r n)
      = Row.out (row x r) (row g 0) (fun k j => w (ix2 k j)) (fun j n => v (ix2 j n)) (row q 0) n := by
  have hn : row (normedRows x g) r = Row.normed (row x r) (row g 0) := funext (normedRows_apply x g r)
  have hh : (fun j => hiddenRows (projRows (normedRows x g) w) (ix2 r j))
      = Row.hidden (Row.normed (row x r) (row g 0)) (fun k j => w (ix2 k j)) :=
    funext fun j => by rw [hiddenRows_apply, projRows_apply, projRows_apply, hn]; rfl
  have hf : row (feedRows (hiddenRows (projRows (normedRows x g) w)) v) r
      = Row.feed (row x r) (row g 0) (fun k j => w (ix2 k j)) (fun j n => v (ix2 j n)) :=
    funext fun n => (feedRows_apply _ v r n).trans (congrArg (fun a => Row.down a (fun j n => v (ix2 j n)) n) hh)
  unfold outRows
  rw [updateRows_apply, normedRows_apply, hf]
  rfl

/-- The reference's result is the stages in order. -/
theorem result_eq (m : (ℓ : Loc nD τ sig) → Buf (Elt Ideal) ℓ) (c : Dev nD) :
    Value.res_main_v32 m c = outRows (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Ffn

end
-- ==== Proof.lean ====
/- The eight claims. Of the feed-forward: the kernel's frames, as printed and idealized; the reference's; that the
   idealization changes nothing; and that the kernel's result is the reference's. Of the mixer: the two frames, and
   that the idealization changes nothing. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.KFrame
public import proofs.«01_k».proof.Proof.Result
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The kernel's frame, as printed. -/
theorem kernel_frame : Cert.quiescent_Kernel (hKernel := Cert.Kernel.Gen.facts) :=
  fun m g _ => Cert.Kernel.Ffn.run m g

/-- The idealized kernel's frame. -/
theorem ideal_frame : Cert.quiescent_KernelIdeal (hKernelIdeal := Cert.KernelIdeal.Gen.facts) :=
  fun m g _ => (θ_run _ _ _).mono (fun _ h => ⟨fun c => (h.1 c).2, h.2⟩) (Cert.KernelIdeal.Ffn.run m g)

/-- The reference's frame: it names no semaphore. -/
theorem reference_frame : Cert.quiescent_ReferenceIdeal (hReferenceIdeal := Cert.ReferenceIdeal.Gen.facts) :=
  fun m g _ => (θ_run _ _ _).mono
    (fun r h => ⟨fun c => (h c).2, Idealize.ShloMosaic.sem_eq_zero_of_no_sems (by decide) r.2⟩) (Cert.ReferenceIdeal.Value.run m g)

/-- The mixer's frame, as printed. -/
theorem mixer_frame : Cert.quiescent_Kernel2 (hKernel2 := Cert.Kernel2.Gen.facts) :=
  fun m g _ => Cert.Kernel2.Gen.frame m g

/-- The idealized mixer's frame. -/
theorem ideal_mixer_frame : Cert.quiescent_Kernel2Ideal (hKernel2Ideal := Cert.Kernel2Ideal.Gen.facts) :=
  fun m g _ => Cert.Kernel2Ideal.Gen.frame m g

/-- From the same arguments the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v32 m' c = Cert.KernelIdeal.Ffn.result m c := by
  rw [Cert.ReferenceIdeal.Ffn.result_eq, h0, h1, h2, h3, h4]
  funext y
  idx_vars y
  exact Cert.ReferenceIdeal.Ffn.outRows_apply _ _ _ _ _ y0 y1

/-- The kernel's result is the reference's, from arguments that agree. -/
theorem values : Cert.algebraic_KernelIdeal_ReferenceIdeal (hKernelIdeal := Cert.KernelIdeal.Gen.facts)
    (hReferenceIdeal := Cert.ReferenceIdeal.Gen.facts) :=
  fun m g m' g' _ hm => ⟨Cert.KernelIdeal.Ffn.result m,
    (θ_run _ _ _).mono (fun _ h => h.1) (Cert.KernelIdeal.Ffn.run m g),
    (θ_run _ _ _).mono (fun _ h c => ⟨(h c).1.trans (results_eq m m' c (hm c).1 (hm c).2.1 (hm c).2.2.1 (hm c).2.2.2.1 (hm c).2.2.2.2), (h c).2⟩)
      (Cert.ReferenceIdeal.Value.run m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    kernel_frame, ideal_frame, reference_frame, mixer_frame, ideal_mixer_frame, trivial, values, trivial⟩

end Cert.Proof

end
